-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2 = (fun _ => 1#1)

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.1 = (fun _ => 1#1)
    ∧ (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.1 = (fun _ => 1#1)
    ∧ (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  IdealRules.named_const.Statement Cert.KernelIdeal.κ "inv224" .f32 0x3B924925#32 ((1 / 224 : ℝ) : EReal)

def algebraic_KernelIdeal_ReferenceIdeal_on_beyond_lane_128_pre_drawn [hKernelIdeal : Cert.KernelIdeal.Facts] [hReferenceIdeal : Cert.ReferenceIdeal.Facts] [hPre_drawn : Cert.Pre_drawn.Facts] [hOn_beyond_lane_128 : Cert.On_beyond_lane_128.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v56)) (v2 : (c : Dev Cert.KernelIdeal.nD) → Buf (Elt Ideal) ((c.tc : Thread Cert.KernelIdeal.nD Cert.KernelIdeal.τ).loc Cert.KernelIdeal.main_v57_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![20000, 2560]⟩ : Shape).Idx, (Cert.On_beyond_lane_128.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 i = 1#1 → r.2.mem ((c.tc : Thread Cert.KernelIdeal.nD Cert.KernelIdeal.τ).loc Cert.KernelIdeal.main_v57_0) i = v0 c i)
          ∧ (∀ i : (⟨2, ![1, 100000]⟩ : Shape).Idx, (Cert.On_beyond_lane_128.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 i = 1#1 → r.2.mem ((c.tc : Thread Cert.KernelIdeal.nD Cert.KernelIdeal.τ).loc Cert.KernelIdeal.main_v56) i = v1 c i)
          ∧ (∀ i : (⟨2, ![20000, 10]⟩ : Shape).Idx, (Cert.On_beyond_lane_128.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2 i = 1#1 → r.2.mem ((c.tc : Thread Cert.KernelIdeal.nD Cert.KernelIdeal.τ).loc Cert.KernelIdeal.main_v57_1) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![20000, 2560]⟩ : Shape).Idx, (Cert.On_beyond_lane_128.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 i = 1#1 → r.2.mem ((c.tc : Thread Cert.ReferenceIdeal.nD Cert.ReferenceIdeal.τ).loc Cert.ReferenceIdeal.main_v159) i = v0 c i)
          ∧ (∀ i : (⟨2, ![1, 100000]⟩ : Shape).Idx, (Cert.On_beyond_lane_128.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 i = 1#1 → r.2.mem ((c.tc : Thread Cert.ReferenceIdeal.nD Cert.ReferenceIdeal.τ).loc Cert.ReferenceIdeal.main_v158) i = v1 c i)
          ∧ (∀ i : (⟨2, ![20000, 10]⟩ : Shape).Idx, (Cert.On_beyond_lane_128.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2 i = 1#1 → r.2.mem ((c.tc : Thread Cert.ReferenceIdeal.nD Cert.ReferenceIdeal.τ).loc Cert.ReferenceIdeal.main_v160) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def holds_KernelIdeal_near_layer_norm_pre_finite_points [hKernelIdeal : Cert.KernelIdeal.Facts] [hPre_finite_points : Cert.Pre_finite_points.Facts] [hPost_near_layer_norm : Cert.Post_near_layer_norm.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ (Cert.Post_near_layer_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (r.2.mem ((c.tc : Thread Cert.KernelIdeal.nD Cert.KernelIdeal.τ).loc Cert.KernelIdeal.main_v57_0)) (r.2.mem ((c.tc : Thread Cert.KernelIdeal.nD Cert.KernelIdeal.τ).loc Cert.KernelIdeal.main_v56)) (r.2.mem ((c.tc : Thread Cert.KernelIdeal.nD Cert.KernelIdeal.τ).loc Cert.KernelIdeal.main_v57_1))) = (fun _ => 1#1))

def Claim : Prop :=
  ∃ (hKernel : Cert.Kernel.Facts) (hKernelIdeal : Cert.KernelIdeal.Facts) (hReferenceIdeal : Cert.ReferenceIdeal.Facts) (hPre_drawn : Cert.Pre_drawn.Facts) (hPre_finite_points : Cert.Pre_finite_points.Facts) (hPost_near_layer_norm : Cert.Post_near_layer_norm.Facts) (hOn_beyond_lane_128 : Cert.On_beyond_lane_128.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_on_beyond_lane_128_pre_drawn (hKernelIdeal := hKernelIdeal) (hReferenceIdeal := hReferenceIdeal) (hPre_drawn := hPre_drawn) (hOn_beyond_lane_128 := hOn_beyond_lane_128)
    ∧ holds_KernelIdeal_near_layer_norm_pre_finite_points (hKernelIdeal := hKernelIdeal) (hPre_finite_points := hPre_finite_points) (hPost_near_layer_norm := hPost_near_layer_norm)
-- ==== On_beyond_lane_128.lean ====
abbrev S20000x5x2 : Shape := ⟨3, ![20000, 5, 2]⟩
abbrev S20000 : Shape := ⟨1, ![20000]⟩
abbrev S112x2x3 : Shape := ⟨3, ![112, 2, 3]⟩
abbrev S112 : Shape := ⟨1, ![112]⟩
abbrev S224x112x3 : Shape := ⟨3, ![224, 112, 3]⟩
abbrev S224 : Shape := ⟨1, ![224]⟩
abbrev S12x256 : Shape := ⟨2, ![12, 256]⟩
abbrev S4x256 : Shape := ⟨2, ![4, 256]⟩
abbrev S1x128 : Shape := ⟨2, ![1, 128]⟩
abbrev S128 : Shape := ⟨1, ![128]⟩
abbrev S128x256 : Shape := ⟨2, ![128, 256]⟩
abbrev S256 : Shape := ⟨1, ![256]⟩
abbrev S20000x5x512 : Shape := ⟨3, ![20000, 5, 512]⟩
abbrev S_ : Shape := ⟨0, ![]⟩
abbrev S20000x2560 : Shape := ⟨2, ![20000, 2560]⟩
abbrev S1x100000 : Shape := ⟨2, ![1, 100000]⟩
abbrev S20000x10 : Shape := ⟨2, ![20000, 10]⟩

class Facts : Prop where
  bcast_S_S20000x5x512 : S_.BroadcastsInDim S20000x5x512 (![] : Fin 0 → Fin S20000x5x512.rank)
  shapeCasts_S20000x5x512_S20000x2560 : S20000x5x512.ShapeCasts S20000x2560
  bcast_S_S1x100000 : S_.BroadcastsInDim S1x100000 (![] : Fin 0 → Fin S1x100000.rank)
  bcast_S_S20000x10 : S_.BroadcastsInDim S20000x10 (![] : Fin 0 → Fin S20000x10.rank)

variable [Facts]

def fn {F : FTy → Type} [FloatOps F] (main_arg0 : FVec F S20000x5x2 .f32) (main_arg1 : IVec S20000 32) (main_arg2 : IVec S20000 32) (main_arg3 : FVec F S20000 .f32) (main_arg4 : IVec S20000 32) (main_arg5 : FVec F S112x2x3 .f32) (main_arg6 : FVec F S112 .f32) (main_arg7 : FVec F S224x112x3 .f32) (main_arg8 : FVec F S224 .f32) (main_arg9 : FVec F S224 .f32) (main_arg10 : FVec F S224 .f32) (main_arg11 : FVec F S12x256 .f32) (main_arg12 : FVec F S4x256 .f32) (main_arg13 : FVec F S1x128 .f32) (main_arg14 : FVec F S128 .f32) (main_arg15 : FVec F S128x256 .f32) (main_arg16 : FVec F S256 .f32) (main_arg17 : FVec F S256 .f32) (main_arg18 : FVec F S1x128 .f32) (main_arg19 : FVec F S128 .f32) (main_arg20 : FVec F S128x256 .f32) (main_arg21 : FVec F S256 .f32) (main_arg22 : FVec F S256 .f32) (main_arg23 : FVec F S256 .f32) (main_arg24 : FVec F S256 .f32) : IVec S20000x2560 1 × IVec S1x100000 1 × IVec S20000x10 1 :=
  let main_v0 : IVec S20000x5x512 32 := iotaInDim S20000x5x512 32 2
  let main_c : IVec S_ 32 := constantI S_ 32 128#32
  let main_v1 : IVec S20000x5x512 32 := broadcastInDim S20000x5x512 ![] bcast_S_S20000x5x512 main_c
  let main_v2 : IVec S20000x5x512 1 := cmpi .sge main_v0 main_v1
  let main_v3 : IVec S20000x2560 1 := shapeCast S20000x2560 main_v2 shapeCasts_S20000x5x512_S20000x2560
  let main_c_0 : IVec S_ 1 := constantI S_ 1 1#1
  let main_v4 : IVec S1x100000 1 := broadcastInDim S1x100000 ![] bcast_S_S1x100000 main_c_0
  let main_c_1 : IVec S_ 1 := constantI S_ 1 1#1
  let main_v5 : IVec S20000x10 1 := broadcastInDim S20000x10 ![] bcast_S_S20000x10 main_c_1
  (main_v3, main_v4, main_v5)
-- ==== Post_near_layer_norm.lean ====
abbrev S20000x5x2 : Shape := ⟨3, ![20000, 5, 2]⟩
abbrev S20000 : Shape := ⟨1, ![20000]⟩
abbrev S112x2x3 : Shape := ⟨3, ![112, 2, 3]⟩
abbrev S112 : Shape := ⟨1, ![112]⟩
abbrev S224x112x3 : Shape := ⟨3, ![224, 112, 3]⟩
abbrev S224 : Shape := ⟨1, ![224]⟩
abbrev S12x256 : Shape := ⟨2, ![12, 256]⟩
abbrev S4x256 : Shape := ⟨2, ![4, 256]⟩
abbrev S1x128 : Shape := ⟨2, ![1, 128]⟩
abbrev S128 : Shape := ⟨1, ![128]⟩
abbrev S128x256 : Shape := ⟨2, ![128, 256]⟩
abbrev S256 : Shape := ⟨1, ![256]⟩
abbrev S20000x2560 : Shape := ⟨2, ![20000, 2560]⟩
abbrev S1x100000 : Shape := ⟨2, ![1, 100000]⟩
abbrev S20000x10 : Shape := ⟨2, ![20000, 10]⟩
abbrev S2 : Shape := ⟨1, ![2]⟩
abbrev S1x1x2 : Shape := ⟨3, ![1, 1, 2]⟩
abbrev S_ : Shape := ⟨0, ![]⟩
abbrev S20000x7x2 : Shape := ⟨3, ![20000, 7, 2]⟩
abbrev S112x2x1 : Shape := ⟨3, ![112, 2, 1]⟩
abbrev S112x2 : Shape := ⟨2, ![112, 2]⟩
abbrev S20000x5x112 : Shape := ⟨3, ![20000, 5, 112]⟩
abbrev S1x1x112 : Shape := ⟨3, ![1, 1, 112]⟩
abbrev S20000x7x112 : Shape := ⟨3, ![20000, 7, 112]⟩
abbrev S224x112x1 : Shape := ⟨3, ![224, 112, 1]⟩
abbrev S224x112 : Shape := ⟨2, ![224, 112]⟩
abbrev S20000x5x224 : Shape := ⟨3, ![20000, 5, 224]⟩
abbrev S1x1x224 : Shape := ⟨3, ![1, 1, 224]⟩
abbrev S20000x5 : Shape := ⟨2, ![20000, 5]⟩
abbrev S20000x5x1 : Shape := ⟨3, ![20000, 5, 1]⟩
abbrev S20000x5x96 : Shape := ⟨3, ![20000, 5, 96]⟩
abbrev S20000x5x512 : Shape := ⟨3, ![20000, 5, 512]⟩

class Facts : Prop where
  bcast_S2_S1x1x2_2 : S2.BroadcastsInDim S1x1x2 (![2] : Fin 1 → Fin S1x1x2.rank)
  bcast_S1x1x2_S20000x5x2_0_1_2 : S1x1x2.BroadcastsInDim S20000x5x2 (![0, 1, 2] : Fin 3 → Fin S20000x5x2.rank)
  pads_S20000x5x2_S20000x7x2_000_110_000 : S20000x5x2.Pads (![0, 1, 0] : Fin 3 → Nat) ![0, 1, 0] ![0, 0, 0] S20000x7x2
  h_S_ : 0 < S_.numel
  slices_S20000x7x2_S20000x5x2_0_0_0 : S20000x7x2.Slices ![0, 0, 0] S20000x5x2
  slices_S112x2x3_S112x2x1_0_0_0 : S112x2x3.Slices ![0, 0, 0] S112x2x1
  shapeCasts_S112x2x1_S112x2 : S112x2x1.ShapeCasts S112x2
  bcast_S_S20000x5x112 : S_.BroadcastsInDim S20000x5x112 (![] : Fin 0 → Fin S20000x5x112.rank)
  slices_S20000x7x2_S20000x5x2_0_1_0 : S20000x7x2.Slices ![0, 1, 0] S20000x5x2
  slices_S112x2x3_S112x2x1_0_0_1 : S112x2x3.Slices ![0, 0, 1] S112x2x1
  slices_S20000x7x2_S20000x5x2_0_2_0 : S20000x7x2.Slices ![0, 2, 0] S20000x5x2
  slices_S112x2x3_S112x2x1_0_0_2 : S112x2x3.Slices ![0, 0, 2] S112x2x1
  bcast_S112_S1x1x112_2 : S112.BroadcastsInDim S1x1x112 (![2] : Fin 1 → Fin S1x1x112.rank)
  bcast_S1x1x112_S20000x5x112_0_1_2 : S1x1x112.BroadcastsInDim S20000x5x112 (![0, 1, 2] : Fin 3 → Fin S20000x5x112.rank)
  pads_S20000x5x112_S20000x7x112_000_110_000 : S20000x5x112.Pads (![0, 1, 0] : Fin 3 → Nat) ![0, 1, 0] ![0, 0, 0] S20000x7x112
  slices_S20000x7x112_S20000x5x112_0_0_0 : S20000x7x112.Slices ![0, 0, 0] S20000x5x112
  slices_S224x112x3_S224x112x1_0_0_0 : S224x112x3.Slices ![0, 0, 0] S224x112x1
  shapeCasts_S224x112x1_S224x112 : S224x112x1.ShapeCasts S224x112
  bcast_S_S20000x5x224 : S_.BroadcastsInDim S20000x5x224 (![] : Fin 0 → Fin S20000x5x224.rank)
  slices_S20000x7x112_S20000x5x112_0_1_0 : S20000x7x112.Slices ![0, 1, 0] S20000x5x112
  slices_S224x112x3_S224x112x1_0_0_1 : S224x112x3.Slices ![0, 0, 1] S224x112x1
  slices_S20000x7x112_S20000x5x112_0_2_0 : S20000x7x112.Slices ![0, 2, 0] S20000x5x112
  slices_S224x112x3_S224x112x1_0_0_2 : S224x112x3.Slices ![0, 0, 2] S224x112x1
  bcast_S224_S1x1x224_2 : S224.BroadcastsInDim S1x1x224 (![2] : Fin 1 → Fin S1x1x224.rank)
  bcast_S1x1x224_S20000x5x224_0_1_2 : S1x1x224.BroadcastsInDim S20000x5x224 (![0, 1, 2] : Fin 3 → Fin S20000x5x224.rank)
  reducesTo_S20000x5x224_S20000x5_d2 : S20000x5x224.ReducesTo [2] S20000x5
  bcast_S20000x5_S20000x5x1_0_1 : S20000x5.BroadcastsInDim S20000x5x1 (![0, 1] : Fin 2 → Fin S20000x5x1.rank)
  bcast_S_S20000x5x1 : S_.BroadcastsInDim S20000x5x1 (![] : Fin 0 → Fin S20000x5x1.rank)
  bcast_S20000x5x1_S20000x5x224_0_1_2 : S20000x5x1.BroadcastsInDim S20000x5x224 (![0, 1, 2] : Fin 3 → Fin S20000x5x224.rank)
  slices_S20000x5x224_S20000x5x96_0_0_0 : S20000x5x224.Slices ![0, 0, 0] S20000x5x96
  shapeCasts_S20000x2560_S20000x5x512 : S20000x2560.ShapeCasts S20000x5x512
  slices_S20000x5x512_S20000x5x96_0_0_32 : S20000x5x512.Slices ![0, 0, 32] S20000x5x96
  bcast_S_S20000x5x96 : S_.BroadcastsInDim S20000x5x96 (![] : Fin 0 → Fin S20000x5x96.rank)
  dot_S20000x5x2_S112x2_S20000x5x112_2_1_01_0_n_n_wf : DotDims.WF S20000x5x2 S112x2 S20000x5x112 [2] [1] [0, 1] [0] [] []
  dot_S20000x5x112_S224x112_S20000x5x224_2_1_01_0_n_n_wf : DotDims.WF S20000x5x112 S224x112 S20000x5x224 [2] [1] [0, 1] [0] [] []

variable [Facts]

def dot_S20000x5x2_S112x2_S20000x5x112_2_1_01_0_n_n : DotDims S20000x5x2 S112x2 S20000x5x112 where
  lhsContracting := [2]
  rhsContracting := [1]
  lhsNonContracting := [0, 1]
  rhsNonContracting := [0]
  lhsBatch := []
  rhsBatch := []
  wf := dot_S20000x5x2_S112x2_S20000x5x112_2_1_01_0_n_n_wf
def dot_S20000x5x112_S224x112_S20000x5x224_2_1_01_0_n_n : DotDims S20000x5x112 S224x112 S20000x5x224 where
  lhsContracting := [2]
  rhsContracting := [1]
  lhsNonContracting := [0, 1]
  rhsNonContracting := [0]
  lhsBatch := []
  rhsBatch := []
  wf := dot_S20000x5x112_S224x112_S20000x5x224_2_1_01_0_n_n_wf

noncomputable abbrev lit0 : Fin 2 → BitVec 32 := fun
  | 0 => 0x41F00000#32 | 1 => 0x41700000#32
  | _ => 0#32

noncomputable abbrev lit1 : Fin 2 → BitVec 32 := fun
  | 0 => 0x42700000#32 | 1 => 0x41F00000#32
  | _ => 0#32

def fn_pad {F : FTy → Type} [FloatOps F] (arg0 : FVec F S20000x5x2 .f32) (arg1 : IVec S_ 32) : FVec F S20000x7x2 .f32 :=
  let v0 : FVec F S_ .f32 := sitofp .f32 arg1
  let v1 : FVec F S20000x7x2 .f32 := (fun x v => pad S20000x7x2 ![0, 1, 0] ![0, 1, 0] ![0, 0, 0] x v pads_S20000x5x2_S20000x7x2_000_110_000 h_S_) arg0 v0
  v1

def fn_pad_0 {F : FTy → Type} [FloatOps F] (arg0 : FVec F S20000x5x112 .f32) (arg1 : IVec S_ 32) : FVec F S20000x7x112 .f32 :=
  let v0 : FVec F S_ .f32 := sitofp .f32 arg1
  let v1 : FVec F S20000x7x112 .f32 := (fun x v => pad S20000x7x112 ![0, 1, 0] ![0, 1, 0] ![0, 0, 0] x v pads_S20000x5x112_S20000x7x112_000_110_000 h_S_) arg0 v0
  v1

def fn_part4 {F : FTy → Type} [FloatOps F] (main_v76 : FVec F S20000x5x96 .f32) (main_v78 : FVec F S20000x5x96 .f32) (main_v81 : IVec S20000x5x96 1) : IVec S20000x5x96 1 :=
  let main_cst_12 : FVec F S_ .f32 := constant S_ .f32 0x358637BD#32
  let main_v82 : FVec F S20000x5x96 .f32 := broadcastInDim S20000x5x96 ![] bcast_S_S20000x5x96 main_cst_12
  let main_v83 : FVec F S20000x5x96 .f32 := addf main_v76 main_v82
  let main_v84 : IVec S20000x5x96 1 := cmpf .ole main_v78 main_v83
  let main_v85 : IVec S20000x5x96 1 := andi main_v81 main_v84
  main_v85

def fn_part3 {F : FTy → Type} [FloatOps F] (main_arg9 : FVec F S224 .f32) (main_arg10 : FVec F S224 .f32) (main_arg25 : FVec F S20000x2560 .f32) (main_v49 : FVec F S20000x5x224 .f32) (main_v53 : FVec F S20000x5x1 .f32) (main_v60 : FVec F S20000x5x1 .f32) : IVec S20000x5x96 1 :=
  let main_cst_9 : FVec F S_ .f32 := constant S_ .f32 0x43600000#32
  let main_v61 : FVec F S20000x5x1 .f32 := broadcastInDim S20000x5x1 ![] bcast_S_S20000x5x1 main_cst_9
  let main_v62 : FVec F S20000x5x1 .f32 := Host.divf main_v60 main_v61
  let main_v63 : FVec F S20000x5x224 .f32 := broadcastInDim S20000x5x224 ![0, 1, 2] bcast_S20000x5x1_S20000x5x224_0_1_2 main_v53
  let main_v64 : FVec F S20000x5x224 .f32 := subf main_v49 main_v63
  let main_cst_10 : FVec F S_ .f32 := constant S_ .f32 0x3727C5AC#32
  let main_v65 : FVec F S20000x5x1 .f32 := broadcastInDim S20000x5x1 ![] bcast_S_S20000x5x1 main_cst_10
  let main_v66 : FVec F S20000x5x1 .f32 := addf main_v62 main_v65
  let main_v67 : FVec F S20000x5x1 .f32 := Host.sqrt main_v66
  let main_v68 : FVec F S20000x5x224 .f32 := broadcastInDim S20000x5x224 ![0, 1, 2] bcast_S20000x5x1_S20000x5x224_0_1_2 main_v67
  let main_v69 : FVec F S20000x5x224 .f32 := Host.divf main_v64 main_v68
  let main_v70 : FVec F S1x1x224 .f32 := broadcastInDim S1x1x224 ![2] bcast_S224_S1x1x224_2 main_arg9
  let main_v71 : FVec F S20000x5x224 .f32 := broadcastInDim S20000x5x224 ![0, 1, 2] bcast_S1x1x224_S20000x5x224_0_1_2 main_v70
  let main_v72 : FVec F S20000x5x224 .f32 := mulf main_v69 main_v71
  let main_v73 : FVec F S1x1x224 .f32 := broadcastInDim S1x1x224 ![2] bcast_S224_S1x1x224_2 main_arg10
  let main_v74 : FVec F S20000x5x224 .f32 := broadcastInDim S20000x5x224 ![0, 1, 2] bcast_S1x1x224_S20000x5x224_0_1_2 main_v73
  let main_v75 : FVec F S20000x5x224 .f32 := addf main_v72 main_v74
  let main_v76 : FVec F S20000x5x96 .f32 := (extractStridedSlice S20000x5x96 ![0, 0, 0] · slices_S20000x5x224_S20000x5x96_0_0_0) main_v75
  let main_v77 : FVec F S20000x5x512 .f32 := shapeCast S20000x5x512 main_arg25 shapeCasts_S20000x2560_S20000x5x512
  let main_v78 : FVec F S20000x5x96 .f32 := (extractStridedSlice S20000x5x96 ![0, 0, 32] · slices_S20000x5x512_S20000x5x96_0_0_32) main_v77
  let main_cst_11 : FVec F S_ .f32 := constant S_ .f32 0x358637BD#32
  let main_v79 : FVec F S20000x5x96 .f32 := broadcastInDim S20000x5x96 ![] bcast_S_S20000x5x96 main_cst_11
  let main_v80 : FVec F S20000x5x96 .f32 := subf main_v76 main_v79
  let main_v81 : IVec S20000x5x96 1 := cmpf .oge main_v78 main_v80
  fn_part4 (F := F) main_v76 main_v78 main_v81

def fn_part2 {F : FTy → Type} [FloatOps F] (main_arg7 : FVec F S224x112x3 .f32) (main_arg8 : FVec F S224 .f32) (main_arg9 : FVec F S224 .f32) (main_arg10 : FVec F S224 .f32) (main_arg25 : FVec F S20000x2560 .f32) (main_v39 : FVec F S20000x5x224 .f32) (main_v40 : FVec F S20000x5x112 .f32) : IVec S20000x5x96 1 :=
  let main_v41 : FVec F S224x112x1 .f32 := (extractStridedSlice S224x112x1 ![0, 0, 2] · slices_S224x112x3_S224x112x1_0_0_2) main_arg7
  let main_v42 : FVec F S224x112 .f32 := shapeCast S224x112 main_v41 shapeCasts_S224x112x1_S224x112
  let main_v43 : FVec F S20000x5x224 .f32 := (fun l r => Host.dotGeneral dot_S20000x5x112_S224x112_S20000x5x224_2_1_01_0_n_n none l r) main_v40 main_v42
  let main_v44 : FVec F S20000x5x224 .f32 := addf main_v39 main_v43
  let main_v45 : FVec F S1x1x224 .f32 := broadcastInDim S1x1x224 ![2] bcast_S224_S1x1x224_2 main_arg8
  let main_v46 : FVec F S20000x5x224 .f32 := broadcastInDim S20000x5x224 ![0, 1, 2] bcast_S1x1x224_S20000x5x224_0_1_2 main_v45
  let main_v47 : FVec F S20000x5x224 .f32 := addf main_v44 main_v46
  let main_cst_5 : FVec F S_ .f32 := constant S_ .f32 0x00000000#32
  let main_v48 : FVec F S20000x5x224 .f32 := broadcastInDim S20000x5x224 ![] bcast_S_S20000x5x224 main_cst_5
  let main_v49 : FVec F S20000x5x224 .f32 := maximumf main_v47 main_v48
  let main_cst_6 : FVec F S_ .f32 := constant S_ .f32 0x00000000#32
  let main_v50 : FVec F S20000x5 .f32 := (fun x v => Host.reduceAdd x v reducesTo_S20000x5x224_S20000x5_d2 h_S_) main_v49 main_cst_6
  let main_v51 : FVec F S20000x5x1 .f32 := broadcastInDim S20000x5x1 ![0, 1] bcast_S20000x5_S20000x5x1_0_1 main_v50
  let main_cst_7 : FVec F S_ .f32 := constant S_ .f32 0x43600000#32
  let main_v52 : FVec F S20000x5x1 .f32 := broadcastInDim S20000x5x1 ![] bcast_S_S20000x5x1 main_cst_7
  let main_v53 : FVec F S20000x5x1 .f32 := Host.divf main_v51 main_v52
  let main_v54 : FVec F S20000x5x224 .f32 := broadcastInDim S20000x5x224 ![0, 1, 2] bcast_S20000x5x1_S20000x5x224_0_1_2 main_v53
  let main_v55 : FVec F S20000x5x224 .f32 := subf main_v49 main_v54
  let main_v56 : FVec F S20000x5x224 .f32 := broadcastInDim S20000x5x224 ![0, 1, 2] bcast_S20000x5x1_S20000x5x224_0_1_2 main_v53
  let main_v57 : FVec F S20000x5x224 .f32 := subf main_v49 main_v56
  let main_v58 : FVec F S20000x5x224 .f32 := mulf main_v55 main_v57
  let main_cst_8 : FVec F S_ .f32 := constant S_ .f32 0x00000000#32
  let main_v59 : FVec F S20000x5 .f32 := (fun x v => Host.reduceAdd x v reducesTo_S20000x5x224_S20000x5_d2 h_S_) main_v58 main_cst_8
  let main_v60 : FVec F S20000x5x1 .f32 := broadcastInDim S20000x5x1 ![0, 1] bcast_S20000x5_S20000x5x1_0_1 main_v59
  fn_part3 (F := F) main_arg9 main_arg10 main_arg25 main_v49 main_v53 main_v60

def fn_part1 {F : FTy → Type} [FloatOps F] (main_arg6 : FVec F S112 .f32) (main_arg7 : FVec F S224x112x3 .f32) (main_arg8 : FVec F S224 .f32) (main_arg9 : FVec F S224 .f32) (main_arg10 : FVec F S224 .f32) (main_arg25 : FVec F S20000x2560 .f32) (main_v17 : FVec F S20000x5x112 .f32) (main_v18 : FVec F S20000x5x2 .f32) (main_v19 : FVec F S112x2x1 .f32) : IVec S20000x5x96 1 :=
  let main_v20 : FVec F S112x2 .f32 := shapeCast S112x2 main_v19 shapeCasts_S112x2x1_S112x2
  let main_v21 : FVec F S20000x5x112 .f32 := (fun l r => Host.dotGeneral dot_S20000x5x2_S112x2_S20000x5x112_2_1_01_0_n_n none l r) main_v18 main_v20
  let main_v22 : FVec F S20000x5x112 .f32 := addf main_v17 main_v21
  let main_v23 : FVec F S1x1x112 .f32 := broadcastInDim S1x1x112 ![2] bcast_S112_S1x1x112_2 main_arg6
  let main_v24 : FVec F S20000x5x112 .f32 := broadcastInDim S20000x5x112 ![0, 1, 2] bcast_S1x1x112_S20000x5x112_0_1_2 main_v23
  let main_v25 : FVec F S20000x5x112 .f32 := addf main_v22 main_v24
  let main_cst_2 : FVec F S_ .f32 := constant S_ .f32 0x00000000#32
  let main_v26 : FVec F S20000x5x112 .f32 := broadcastInDim S20000x5x112 ![] bcast_S_S20000x5x112 main_cst_2
  let main_v27 : FVec F S20000x5x112 .f32 := maximumf main_v25 main_v26
  let main_c_3 : IVec S_ 32 := constantI S_ 32 0#32
  let main_v28 : FVec F S20000x7x112 .f32 := fn_pad_0 (F := F) main_v27 main_c_3
  let main_v29 : FVec F S20000x5x112 .f32 := (extractStridedSlice S20000x5x112 ![0, 0, 0] · slices_S20000x7x112_S20000x5x112_0_0_0) main_v28
  let main_v30 : FVec F S224x112x1 .f32 := (extractStridedSlice S224x112x1 ![0, 0, 0] · slices_S224x112x3_S224x112x1_0_0_0) main_arg7
  let main_v31 : FVec F S224x112 .f32 := shapeCast S224x112 main_v30 shapeCasts_S224x112x1_S224x112
  let main_v32 : FVec F S20000x5x224 .f32 := (fun l r => Host.dotGeneral dot_S20000x5x112_S224x112_S20000x5x224_2_1_01_0_n_n none l r) main_v29 main_v31
  let main_cst_4 : FVec F S_ .f32 := constant S_ .f32 0x00000000#32
  let main_v33 : FVec F S20000x5x224 .f32 := broadcastInDim S20000x5x224 ![] bcast_S_S20000x5x224 main_cst_4
  let main_v34 : FVec F S20000x5x224 .f32 := addf main_v33 main_v32
  let main_v35 : FVec F S20000x5x112 .f32 := (extractStridedSlice S20000x5x112 ![0, 1, 0] · slices_S20000x7x112_S20000x5x112_0_1_0) main_v28
  let main_v36 : FVec F S224x112x1 .f32 := (extractStridedSlice S224x112x1 ![0, 0, 1] · slices_S224x112x3_S224x112x1_0_0_1) main_arg7
  let main_v37 : FVec F S224x112 .f32 := shapeCast S224x112 main_v36 shapeCasts_S224x112x1_S224x112
  let main_v38 : FVec F S20000x5x224 .f32 := (fun l r => Host.dotGeneral dot_S20000x5x112_S224x112_S20000x5x224_2_1_01_0_n_n none l r) main_v35 main_v37
  let main_v39 : FVec F S20000x5x224 .f32 := addf main_v34 main_v38
  let main_v40 : FVec F S20000x5x112 .f32 := (extractStridedSlice S20000x5x112 ![0, 2, 0] · slices_S20000x7x112_S20000x5x112_0_2_0) main_v28
  fn_part2 (F := F) main_arg7 main_arg8 main_arg9 main_arg10 main_arg25 main_v39 main_v40

def fn {F : FTy → Type} [FloatOps F] (main_arg0 : FVec F S20000x5x2 .f32) (main_arg1 : IVec S20000 32) (main_arg2 : IVec S20000 32) (main_arg3 : FVec F S20000 .f32) (main_arg4 : IVec S20000 32) (main_arg5 : FVec F S112x2x3 .f32) (main_arg6 : FVec F S112 .f32) (main_arg7 : FVec F S224x112x3 .f32) (main_arg8 : FVec F S224 .f32) (main_arg9 : FVec F S224 .f32) (main_arg10 : FVec F S224 .f32) (main_arg11 : FVec F S12x256 .f32) (main_arg12 : FVec F S4x256 .f32) (main_arg13 : FVec F S1x128 .f32) (main_arg14 : FVec F S128 .f32) (main_arg15 : FVec F S128x256 .f32) (main_arg16 : FVec F S256 .f32) (main_arg17 : FVec F S256 .f32) (main_arg18 : FVec F S1x128 .f32) (main_arg19 : FVec F S128 .f32) (main_arg20 : FVec F S128x256 .f32) (main_arg21 : FVec F S256 .f32) (main_arg22 : FVec F S256 .f32) (main_arg23 : FVec F S256 .f32) (main_arg24 : FVec F S256 .f32) (main_arg25 : FVec F S20000x2560 .f32) (main_arg26 : IVec S1x100000 1) (main_arg27 : FVec F S20000x10 .f32) : IVec S20000x5x96 1 :=
  let main_cst : FVec F S2 .f32 := fun i => FloatOps.ofBits .f32 (lit0 (S2.rowMajor i))
  let main_cst_0 : FVec F S2 .f32 := fun i => FloatOps.ofBits .f32 (lit1 (S2.rowMajor i))
  let main_v0 : FVec F S1x1x2 .f32 := broadcastInDim S1x1x2 ![2] bcast_S2_S1x1x2_2 main_cst
  let main_v1 : FVec F S20000x5x2 .f32 := broadcastInDim S20000x5x2 ![0, 1, 2] bcast_S1x1x2_S20000x5x2_0_1_2 main_v0
  let main_v2 : FVec F S20000x5x2 .f32 := addf main_arg0 main_v1
  let main_v3 : FVec F S1x1x2 .f32 := broadcastInDim S1x1x2 ![2] bcast_S2_S1x1x2_2 main_cst_0
  let main_v4 : FVec F S20000x5x2 .f32 := broadcastInDim S20000x5x2 ![0, 1, 2] bcast_S1x1x2_S20000x5x2_0_1_2 main_v3
  let main_v5 : FVec F S20000x5x2 .f32 := Host.divf main_v2 main_v4
  let main_c : IVec S_ 32 := constantI S_ 32 0#32
  let main_v6 : FVec F S20000x7x2 .f32 := fn_pad (F := F) main_v5 main_c
  let main_v7 : FVec F S20000x5x2 .f32 := (extractStridedSlice S20000x5x2 ![0, 0, 0] · slices_S20000x7x2_S20000x5x2_0_0_0) main_v6
  let main_v8 : FVec F S112x2x1 .f32 := (extractStridedSlice S112x2x1 ![0, 0, 0] · slices_S112x2x3_S112x2x1_0_0_0) main_arg5
  let main_v9 : FVec F S112x2 .f32 := shapeCast S112x2 main_v8 shapeCasts_S112x2x1_S112x2
  let main_v10 : FVec F S20000x5x112 .f32 := (fun l r => Host.dotGeneral dot_S20000x5x2_S112x2_S20000x5x112_2_1_01_0_n_n none l r) main_v7 main_v9
  let main_cst_1 : FVec F S_ .f32 := constant S_ .f32 0x00000000#32
  let main_v11 : FVec F S20000x5x112 .f32 := broadcastInDim S20000x5x112 ![] bcast_S_S20000x5x112 main_cst_1
  let main_v12 : FVec F S20000x5x112 .f32 := addf main_v11 main_v10
  let main_v13 : FVec F S20000x5x2 .f32 := (extractStridedSlice S20000x5x2 ![0, 1, 0] · slices_S20000x7x2_S20000x5x2_0_1_0) main_v6
  let main_v14 : FVec F S112x2x1 .f32 := (extractStridedSlice S112x2x1 ![0, 0, 1] · slices_S112x2x3_S112x2x1_0_0_1) main_arg5
  let main_v15 : FVec F S112x2 .f32 := shapeCast S112x2 main_v14 shapeCasts_S112x2x1_S112x2
  let main_v16 : FVec F S20000x5x112 .f32 := (fun l r => Host.dotGeneral dot_S20000x5x2_S112x2_S20000x5x112_2_1_01_0_n_n none l r) main_v13 main_v15
  let main_v17 : FVec F S20000x5x112 .f32 := addf main_v12 main_v16
  let main_v18 : FVec F S20000x5x2 .f32 := (extractStridedSlice S20000x5x2 ![0, 2, 0] · slices_S20000x7x2_S20000x5x2_0_2_0) main_v6
  let main_v19 : FVec F S112x2x1 .f32 := (extractStridedSlice S112x2x1 ![0, 0, 2] · slices_S112x2x3_S112x2x1_0_0_2) main_arg5
  fn_part1 (F := F) main_arg6 main_arg7 main_arg8 main_arg9 main_arg10 main_arg25 main_v17 main_v18 main_v19
-- ==== Pre_drawn.lean ====
abbrev S20000x5x2 : Shape := ⟨3, ![20000, 5, 2]⟩
abbrev S20000 : Shape := ⟨1, ![20000]⟩
abbrev S112x2x3 : Shape := ⟨3, ![112, 2, 3]⟩
abbrev S112 : Shape := ⟨1, ![112]⟩
abbrev S224x112x3 : Shape := ⟨3, ![224, 112, 3]⟩
abbrev S224 : Shape := ⟨1, ![224]⟩
abbrev S12x256 : Shape := ⟨2, ![12, 256]⟩
abbrev S4x256 : Shape := ⟨2, ![4, 256]⟩
abbrev S1x128 : Shape := ⟨2, ![1, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S20000 : S_.BroadcastsInDim S20000 (![] : Fin 0 → Fin S20000.rank)
  bcast_S_S20000x5x2 : S_.BroadcastsInDim S20000x5x2 (![] : Fin 0 → Fin S20000x5x2.rank)
  bcast_S_S112x2x3 : S_.BroadcastsInDim S112x2x3 (![] : Fin 0 → Fin S112x2x3.rank)
  bcast_S_S112 : S_.BroadcastsInDim S112 (![] : Fin 0 → Fin S112.rank)
  bcast_S_S224x112x3 : S_.BroadcastsInDim S224x112x3 (![] : Fin 0 → Fin S224x112x3.rank)
  bcast_S_S224 : S_.BroadcastsInDim S224 (![] : Fin 0 → Fin S224.rank)

variable [Facts]

def fn_part1 {F : FTy → Type} [FloatOps F] (main_arg7 : FVec F S224x112x3 .f32) (main_arg8 : FVec F S224 .f32) (main_v4 : IVec S20000 1) (main_v9 : IVec S20000 1) (main_v12 : IVec S20000x5x2 1) (main_v15 : IVec S112x2x3 1) (main_v16 : FVec F S112 .f32) (main_cst_4 : FVec F S_ .f32) : IVec S20000 1 × IVec S20000 1 × IVec S20000x5x2 1 × IVec S112x2x3 1 × IVec S112 1 × IVec S224x112x3 1 × IVec S224 1 :=
  let main_v17 : FVec F S112 .f32 := broadcastInDim S112 ![] bcast_S_S112 main_cst_4
  let main_v18 : IVec S112 1 := cmpf .olt main_v16 main_v17
  let main_v19 : FVec F S224x112x3 .f32 := Host.absf main_arg7
  let main_cst_5 : FVec F S_ .f32 := constant S_ .f32 0x7F800000#32
  let main_v20 : FVec F S224x112x3 .f32 := broadcastInDim S224x112x3 ![] bcast_S_S224x112x3 main_cst_5
  let main_v21 : IVec S224x112x3 1 := cmpf .olt main_v19 main_v20
  let main_v22 : FVec F S224 .f32 := Host.absf main_arg8
  let main_cst_6 : FVec F S_ .f32 := constant S_ .f32 0x7F800000#32
  let main_v23 : FVec F S224 .f32 := broadcastInDim S224 ![] bcast_S_S224 main_cst_6
  let main_v24 : IVec S224 1 := cmpf .olt main_v22 main_v23
  (main_v4, main_v9, main_v12, main_v15, main_v18, main_v21, main_v24)

def fn {F : FTy → Type} [FloatOps F] (main_arg0 : FVec F S20000x5x2 .f32) (main_arg1 : IVec S20000 32) (main_arg2 : IVec S20000 32) (main_arg3 : FVec F S20000 .f32) (main_arg4 : IVec S20000 32) (main_arg5 : FVec F S112x2x3 .f32) (main_arg6 : FVec F S112 .f32) (main_arg7 : FVec F S224x112x3 .f32) (main_arg8 : FVec F S224 .f32) (main_arg9 : FVec F S224 .f32) (main_arg10 : FVec F S224 .f32) (main_arg11 : FVec F S12x256 .f32) (main_arg12 : FVec F S4x256 .f32) (main_arg13 : FVec F S1x128 .f32) (main_arg14 : FVec F S128 .f32) (main_arg15 : FVec F S128x256 .f32) (main_arg16 : FVec F S256 .f32) (main_arg17 : FVec F S256 .f32) (main_arg18 : FVec F S1x128 .f32) (main_arg19 : FVec F S128 .f32) (main_arg20 : FVec F S128x256 .f32) (main_arg21 : FVec F S256 .f32) (main_arg22 : FVec F S256 .f32) (main_arg23 : FVec F S256 .f32) (main_arg24 : FVec F S256 .f32) : IVec S20000 1 × IVec S20000 1 × IVec S20000x5x2 1 × IVec S112x2x3 1 × IVec S112 1 × IVec S224x112x3 1 × IVec S224 1 :=
  let main_c : IVec S_ 32 := constantI S_ 32 0#32
  let main_v0 : IVec S20000 32 := broadcastInDim S20000 ![] bcast_S_S20000 main_c
  let main_v1 : IVec S20000 1 := cmpi .sge main_arg1 main_v0
  let main_c_0 : IVec S_ 32 := constantI S_ 32 12#32
  let main_v2 : IVec S20000 32 := broadcastInDim S20000 ![] bcast_S_S20000 main_c_0
  let main_v3 : IVec S20000 1 := cmpi .slt main_arg1 main_v2
  let main_v4 : IVec S20000 1 := andi main_v1 main_v3
  let main_c_1 : IVec S_ 32 := constantI S_ 32 0#32
  let main_v5 : IVec S20000 32 := broadcastInDim S20000 ![] bcast_S_S20000 main_c_1
  let main_v6 : IVec S20000 1 := cmpi .sge main_arg4 main_v5
  let main_c_2 : IVec S_ 32 := constantI S_ 32 4#32
  let main_v7 : IVec S20000 32 := broadcastInDim S20000 ![] bcast_S_S20000 main_c_2
  let main_v8 : IVec S20000 1 := cmpi .slt main_arg4 main_v7
  let main_v9 : IVec S20000 1 := andi main_v6 main_v8
  let main_v10 : FVec F S20000x5x2 .f32 := Host.absf main_arg0
  let main_cst : FVec F S_ .f32 := constant S_ .f32 0x7F800000#32
  let main_v11 : FVec F S20000x5x2 .f32 := broadcastInDim S20000x5x2 ![] bcast_S_S20000x5x2 main_cst
  let main_v12 : IVec S20000x5x2 1 := cmpf .olt main_v10 main_v11
  let main_v13 : FVec F S112x2x3 .f32 := Host.absf main_arg5
  let main_cst_3 : FVec F S_ .f32 := constant S_ .f32 0x7F800000#32
  let main_v14 : FVec F S112x2x3 .f32 := broadcastInDim S112x2x3 ![] bcast_S_S112x2x3 main_cst_3
  let main_v15 : IVec S112x2x3 1 := cmpf .olt main_v13 main_v14
  let main_v16 : FVec F S112 .f32 := Host.absf main_arg6
  let main_cst_4 : FVec F S_ .f32 := constant S_ .f32 0x7F800000#32
  fn_part1 (F := F) main_arg7 main_arg8 main_v4 main_v9 main_v12 main_v15 main_v16 main_cst_4
-- ==== Pre_finite_points.lean ====
abbrev S20000x5x2 : Shape := ⟨3, ![20000, 5, 2]⟩
abbrev S20000 : Shape := ⟨1, ![20000]⟩
abbrev S112x2x3 : Shape := ⟨3, ![112, 2, 3]⟩
abbrev S112 : Shape := ⟨1, ![112]⟩
abbrev S224x112x3 : Shape := ⟨3, ![224, 112, 3]⟩
abbrev S224 : Shape := ⟨1, ![224]⟩
abbrev S12x256 : Shape := ⟨2, ![12, 256]⟩
abbrev S4x256 : Shape := ⟨2, ![4, 256]⟩
abbrev S1x128 : Shape := ⟨2, ![1, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S20000x5x2 : S_.BroadcastsInDim S20000x5x2 (![] : Fin 0 → Fin S20000x5x2.rank)
  bcast_S_S112x2x3 : S_.BroadcastsInDim S112x2x3 (![] : Fin 0 → Fin S112x2x3.rank)
  bcast_S_S112 : S_.BroadcastsInDim S112 (![] : Fin 0 → Fin S112.rank)
  bcast_S_S224x112x3 : S_.BroadcastsInDim S224x112x3 (![] : Fin 0 → Fin S224x112x3.rank)
  bcast_S_S224 : S_.BroadcastsInDim S224 (![] : Fin 0 → Fin S224.rank)

variable [Facts]

def fn {F : FTy → Type} [FloatOps F] (main_arg0 : FVec F S20000x5x2 .f32) (main_arg1 : IVec S20000 32) (main_arg2 : IVec S20000 32) (main_arg3 : FVec F S20000 .f32) (main_arg4 : IVec S20000 32) (main_arg5 : FVec F S112x2x3 .f32) (main_arg6 : FVec F S112 .f32) (main_arg7 : FVec F S224x112x3 .f32) (main_arg8 : FVec F S224 .f32) (main_arg9 : FVec F S224 .f32) (main_arg10 : FVec F S224 .f32) (main_arg11 : FVec F S12x256 .f32) (main_arg12 : FVec F S4x256 .f32) (main_arg13 : FVec F S1x128 .f32) (main_arg14 : FVec F S128 .f32) (main_arg15 : FVec F S128x256 .f32) (main_arg16 : FVec F S256 .f32) (main_arg17 : FVec F S256 .f32) (main_arg18 : FVec F S1x128 .f32) (main_arg19 : FVec F S128 .f32) (main_arg20 : FVec F S128x256 .f32) (main_arg21 : FVec F S256 .f32) (main_arg22 : FVec F S256 .f32) (main_arg23 : FVec F S256 .f32) (main_arg24 : FVec F S256 .f32) : IVec S20000x5x2 1 × IVec S112x2x3 1 × IVec S112 1 × IVec S224x112x3 1 × IVec S224 1 :=
  let main_v0 : FVec F S20000x5x2 .f32 := Host.absf main_arg0
  let main_cst : FVec F S_ .f32 := constant S_ .f32 0x7F800000#32
  let main_v1 : FVec F S20000x5x2 .f32 := broadcastInDim S20000x5x2 ![] bcast_S_S20000x5x2 main_cst
  let main_v2 : IVec S20000x5x2 1 := cmpf .olt main_v0 main_v1
  let main_v3 : FVec F S112x2x3 .f32 := Host.absf main_arg5
  let main_cst_0 : FVec F S_ .f32 := constant S_ .f32 0x7F800000#32
  let main_v4 : FVec F S112x2x3 .f32 := broadcastInDim S112x2x3 ![] bcast_S_S112x2x3 main_cst_0
  let main_v5 : IVec S112x2x3 1 := cmpf .olt main_v3 main_v4
  let main_v6 : FVec F S112 .f32 := Host.absf main_arg6
  let main_cst_1 : FVec F S_ .f32 := constant S_ .f32 0x7F800000#32
  let main_v7 : FVec F S112 .f32 := broadcastInDim S112 ![] bcast_S_S112 main_cst_1
  let main_v8 : IVec S112 1 := cmpf .olt main_v6 main_v7
  let main_v9 : FVec F S224x112x3 .f32 := Host.absf main_arg7
  let main_cst_2 : FVec F S_ .f32 := constant S_ .f32 0x7F800000#32
  let main_v10 : FVec F S224x112x3 .f32 := broadcastInDim S224x112x3 ![] bcast_S_S224x112x3 main_cst_2
  let main_v11 : IVec S224x112x3 1 := cmpf .olt main_v9 main_v10
  let main_v12 : FVec F S224 .f32 := Host.absf main_arg8
  let main_cst_3 : FVec F S_ .f32 := constant S_ .f32 0x7F800000#32
  let main_v13 : FVec F S224 .f32 := broadcastInDim S224 ![] bcast_S_S224 main_cst_3
  let main_v14 : IVec S224 1 := cmpf .olt main_v12 main_v13
  (main_v2, main_v5, main_v8, main_v11, main_v14)
-- ==== Kernel.lean ====
abbrev S20000x5x2 : Shape := ⟨3, ![20000, 5, 2]⟩
abbrev S20000 : Shape := ⟨1, ![20000]⟩
abbrev S112x2x3 : Shape := ⟨3, ![112, 2, 3]⟩
abbrev S112 : Shape := ⟨1, ![112]⟩
abbrev S224x112x3 : Shape := ⟨3, ![224, 112, 3]⟩
abbrev S224 : Shape := ⟨1, ![224]⟩
abbrev S12x256 : Shape := ⟨2, ![12, 256]⟩
abbrev S4x256 : Shape := ⟨2, ![4, 256]⟩
abbrev S1x128 : Shape := ⟨2, ![1, 128]⟩
abbrev S128 : Shape := ⟨1, ![128]⟩
abbrev S128x256 : Shape := ⟨2, ![128, 256]⟩
abbrev S256 : Shape := ⟨1, ![256]⟩
abbrev S14 : Shape := ⟨1, ![14]⟩
abbrev S1x14 : Shape := ⟨2, ![1, 14]⟩
abbrev S14x640 : Shape := ⟨2, ![14, 640]⟩
abbrev S20000x10 : Shape := ⟨2, ![20000, 10]⟩
abbrev S_ : Shape := ⟨0, ![]⟩
abbrev S20000x14 : Shape := ⟨2, ![20000, 14]⟩
abbrev S20000x1 : Shape := ⟨2, ![20000, 1]⟩
abbrev S20000x18 : Shape := ⟨2, ![20000, 18]⟩
abbrev S3x2x112 : Shape := ⟨3, ![3, 2, 112]⟩
abbrev S6x112 : Shape := ⟨2, ![6, 112]⟩
abbrev S1x112 : Shape := ⟨2, ![1, 112]⟩
abbrev S3x112x224 : Shape := ⟨3, ![3, 112, 224]⟩
abbrev S384x256 : Shape := ⟨2, ![384, 256]⟩
abbrev S1x112x224 : Shape := ⟨3, ![1, 112, 224]⟩
abbrev S112x224 : Shape := ⟨2, ![112, 224]⟩
abbrev S1x224 : Shape := ⟨2, ![1, 224]⟩
abbrev S1x256 : Shape := ⟨2, ![1, 256]⟩
abbrev S1x100000 : Shape := ⟨2, ![1, 100000]⟩
abbrev S20000x2560 : Shape := ⟨2, ![20000, 2560]⟩
abbrev S1000x18 : Shape := ⟨2, ![1000, 18]⟩
abbrev S1000x2560 : Shape := ⟨2, ![1000, 2560]⟩
abbrev S1000x10 : Shape := ⟨2, ![1000, 10]⟩
abbrev S1000x14 : Shape := ⟨2, ![1000, 14]⟩
abbrev S1000x1 : Shape := ⟨2, ![1000, 1]⟩
abbrev S1000x12 : Shape := ⟨2, ![1000, 12]⟩
abbrev S1000x4 : Shape := ⟨2, ![1000, 4]⟩
abbrev S1000x256 : Shape := ⟨2, ![1000, 256]⟩
abbrev S1000x128 : Shape := ⟨2, ![1000, 128]⟩
abbrev S1000 : Shape := ⟨1, ![1000]⟩
abbrev S1000x640 : Shape := ⟨2, ![1000, 640]⟩
abbrev S1000x896 : Shape := ⟨2, ![1000, 896]⟩
abbrev S1000x384 : Shape := ⟨2, ![1000, 384]⟩

abbrev nBuf : Space → Nat
  | .hbm => 126
  | .vmem => 29
  | .smem => 0
  | _ => 0

abbrev bufTy : (tb : Table) → Fin (tcTables nBuf tb) → BufTy
  | .hbm, ⟨0, _⟩ => ⟨S20000x5x2, .f32⟩
  | .hbm, ⟨1, _⟩ => ⟨S20000, .i32⟩
  | .hbm, ⟨2, _⟩ => ⟨S20000, .i32⟩
  | .hbm, ⟨3, _⟩ => ⟨S20000, .f32⟩
  | .hbm, ⟨4, _⟩ => ⟨S20000, .i32⟩
  | .hbm, ⟨5, _⟩ => ⟨S112x2x3, .f32⟩
  | .hbm, ⟨6, _⟩ => ⟨S112, .f32⟩
  | .hbm, ⟨7, _⟩ => ⟨S224x112x3, .f32⟩
  | .hbm, ⟨8, _⟩ => ⟨S224, .f32⟩
  | .hbm, ⟨9, _⟩ => ⟨S224, .f32⟩
  | .hbm, ⟨10, _⟩ => ⟨S224, .f32⟩
  | .hbm, ⟨11, _⟩ => ⟨S12x256, .f32⟩
  | .hbm, ⟨12, _⟩ => ⟨S4x256, .f32⟩
  | .hbm, ⟨13, _⟩ => ⟨S1x128, .f32⟩
  | .hbm, ⟨14, _⟩ => ⟨S128, .f32⟩
  | .hbm, ⟨15, _⟩ => ⟨S128x256, .f32⟩
  | .hbm, ⟨16, _⟩ => ⟨S256, .f32⟩
  | .hbm, ⟨17, _⟩ => ⟨S256, .f32⟩
  | .hbm, ⟨18, _⟩ => ⟨S1x128, .f32⟩
  | .hbm, ⟨19, _⟩ => ⟨S128, .f32⟩
  | .hbm, ⟨20, _⟩ => ⟨S128x256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S14, .f32⟩
  | .hbm, ⟨26, _⟩ => ⟨S14, .f32⟩
  | .hbm, ⟨27, _⟩ => ⟨S14, .f32⟩
  | .hbm, ⟨28, _⟩ => ⟨S1x14, .f32⟩
  | .hbm, ⟨29, _⟩ => ⟨S14x640, .f32⟩
  | .hbm, ⟨30, _⟩ => ⟨S20000x10, .f32⟩
  | .hbm, ⟨31, _⟩ => ⟨S_, .i32⟩
  | .hbm, ⟨32, _⟩ => ⟨S_, .f32⟩
  | .hbm, ⟨33, _⟩ => ⟨S20000x14, .f32⟩
  | .hbm, ⟨34, _⟩ => ⟨S20000, .f32⟩
  | .hbm, ⟨35, _⟩ => ⟨S20000x1, .f32⟩
  | .hbm, ⟨36, _⟩ => ⟨S20000, .f32⟩
  | .hbm, ⟨37, _⟩ => ⟨S20000x1, .f32⟩
  | .hbm, ⟨38, _⟩ => ⟨S20000x1, .f32⟩
  | .hbm, ⟨39, _⟩ => ⟨S20000, .f32⟩
  | .hbm, ⟨40, _⟩ => ⟨S20000x1, .f32⟩
  | .hbm, ⟨41, _⟩ => ⟨S20000x18, .f32⟩
  | .hbm, ⟨42, _⟩ => ⟨S14, .f32⟩
  | .hbm, ⟨43, _⟩ => ⟨S1x14, .f32⟩
  | .hbm, ⟨44, _⟩ => ⟨S1x14, .f32⟩
  | .hbm, ⟨45, _⟩ => ⟨S3x2x112, .f32⟩
  | .hbm, ⟨46, _⟩ => ⟨S6x112, .f32⟩
  | .hbm, ⟨47, _⟩ => ⟨S_, .f32⟩
  | .hbm, ⟨48, _⟩ => ⟨S14x640, .f32⟩
  | .hbm, ⟨49, _⟩ => ⟨S_, .i32⟩
  | .hbm, ⟨50, _⟩ => ⟨S_, .i32⟩
  | .hbm, ⟨51, _⟩ => ⟨S14x640, .f32⟩
  | .hbm, ⟨52, _⟩ => ⟨S1x112, .f32⟩
  | .hbm, ⟨53, _⟩ => ⟨S_, .i32⟩
  | .hbm, ⟨54, _⟩ => ⟨S_, .i32⟩
  | .hbm, ⟨55, _⟩ => ⟨S14x640, .f32⟩
  | .hbm, ⟨56, _⟩ => ⟨S_, .i32⟩
  | .hbm, ⟨57, _⟩ => ⟨S_, .i32⟩
  | .hbm, ⟨58, _⟩ => ⟨S14x640, .f32⟩
  | .hbm, ⟨59, _⟩ => ⟨S1x112, .f32⟩
  | .hbm, ⟨60, _⟩ => ⟨S_, .i32⟩
  | .hbm, ⟨61, _⟩ => ⟨S_, .i32⟩
  | .hbm, ⟨62, _⟩ => ⟨S14x640, .f32⟩
  | .hbm, ⟨63, _⟩ => ⟨S_, .i32⟩
  | .hbm, ⟨64, _⟩ => ⟨S_, .i32⟩
  | .hbm, ⟨65, _⟩ => ⟨S14x640, .f32⟩
  | .hbm, ⟨66, _⟩ => ⟨S1x112, .f32⟩
  | .hbm, ⟨67, _⟩ => ⟨S_, .i32⟩
  | .hbm, ⟨68, _⟩ => ⟨S_, .i32⟩
  | .hbm, ⟨69, _⟩ => ⟨S14x640, .f32⟩
  | .hbm, ⟨70, _⟩ => ⟨S_, .i32⟩
  | .hbm, ⟨71, _⟩ => ⟨S_, .i32⟩
  | .hbm, ⟨72, _⟩ => ⟨S14x640, .f32⟩
  | .hbm, ⟨73, _⟩ => ⟨S1x112, .f32⟩
  | .hbm, ⟨74, _⟩ => ⟨S_, .i32⟩
  | .hbm, ⟨75, _⟩ => ⟨S_, .i32⟩
  | .hbm, ⟨76, _⟩ => ⟨S14x640, .f32⟩
  | .hbm, ⟨77, _⟩ => ⟨S_, .i32⟩
  | .hbm, ⟨78, _⟩ => ⟨S_, .i32⟩
  | .hbm, ⟨79, _⟩ => ⟨S14x640, .f32⟩
  | .hbm, ⟨80, _⟩ => ⟨S1x112, .f32⟩
  | .hbm, ⟨81, _⟩ => ⟨S_, .i32⟩
  | .hbm, ⟨82, _⟩ => ⟨S_, .i32⟩
  | .hbm, ⟨83, _⟩ => ⟨S14x640, .f32⟩
  | .hbm, ⟨84, _⟩ => ⟨S3x112x224, .f32⟩
  | .hbm, ⟨85, _⟩ => ⟨S_, .f32⟩
  | .hbm, ⟨86, _⟩ => ⟨S384x256, .f32⟩
  | .hbm, ⟨87, _⟩ => ⟨S1x112x224, .f32⟩
  | .hbm, ⟨88, _⟩ => ⟨S112x224, .f32⟩
  | .hbm, ⟨89, _⟩ => ⟨S_, .i32⟩
  | .hbm, ⟨90, _⟩ => ⟨S_, .i32⟩
  | .hbm, ⟨91, _⟩ => ⟨S384x256, .f32⟩
  | .hbm, ⟨92, _⟩ => ⟨S1x112x224, .f32⟩
  | .hbm, ⟨93, _⟩ => ⟨S112x224, .f32⟩
  | .hbm, ⟨94, _⟩ => ⟨S_, .i32⟩
  | .hbm, ⟨95, _⟩ => ⟨S_, .i32⟩
  | .hbm, ⟨96, _⟩ => ⟨S384x256, .f32⟩
  | .hbm, ⟨97, _⟩ => ⟨S1x112x224, .f32⟩
  | .hbm, ⟨98, _⟩ => ⟨S112x224, .f32⟩
  | .hbm, ⟨99, _⟩ => ⟨S_, .i32⟩
  | .hbm, ⟨100, _⟩ => ⟨S_, .i32⟩
  | .hbm, ⟨101, _⟩ => ⟨S384x256, .f32⟩
  | .hbm, ⟨102, _⟩ => ⟨S1x224, .f32⟩
  | .hbm, ⟨103, _⟩ => ⟨S_, .i32⟩
  | .hbm, ⟨104, _⟩ => ⟨S_, .f32⟩
  | .hbm, ⟨105, _⟩ => ⟨S1x256, .f32⟩
  | .hbm, ⟨106, _⟩ => ⟨S1x224, .f32⟩
  | .hbm, ⟨107, _⟩ => ⟨S_, .i32⟩
  | .hbm, ⟨108, _⟩ => ⟨S_, .f32⟩
  | .hbm, ⟨109, _⟩ => ⟨S1x256, .f32⟩
  | .hbm, ⟨110, _⟩ => ⟨S1x224, .f32⟩
  | .hbm, ⟨111, _⟩ => ⟨S_, .i32⟩
  | .hbm, ⟨112, _⟩ => ⟨S_, .f32⟩
  | .hbm, ⟨113, _⟩ => ⟨S1x256, .f32⟩
  | .hbm, ⟨114, _⟩ => ⟨S1x128, .f32⟩
  | .hbm, ⟨115, _⟩ => ⟨S1x256, .f32⟩
  | .hbm, ⟨116, _⟩ => ⟨S1x256, .f32⟩
  | .hbm, ⟨117, _⟩ => ⟨S1x128, .f32⟩
  | .hbm, ⟨118, _⟩ => ⟨S1x256, .f32⟩
  | .hbm, ⟨119, _⟩ => ⟨S1x256, .f32⟩
  | .hbm, ⟨120, _⟩ => ⟨S1x256, .f32⟩
  | .hbm, ⟨121, _⟩ => ⟨S1x256, .f32⟩
  | .hbm, ⟨122, _⟩ => ⟨S_, .i1⟩
  | .hbm, ⟨123, _⟩ => ⟨S1x100000, .i1⟩
  | .hbm, ⟨124, _⟩ => ⟨S20000x2560, .f32⟩
  | .hbm, ⟨125, _⟩ => ⟨S20000x10, .f32⟩
  | .local _ .vmem, ⟨0, _⟩ => ⟨S1000x18, .f32⟩
  | .local _ .vmem, ⟨1, _⟩ => ⟨S1000x18, .f32⟩
  | .local _ .vmem, ⟨2, _⟩ => ⟨S1x14, .f32⟩
  | .local _ .vmem, ⟨3, _⟩ => ⟨S1x14, .f32⟩
  | .local _ .vmem, ⟨4, _⟩ => ⟨S1x14, .f32⟩
  | .local _ .vmem, ⟨5, _⟩ => ⟨S14x640, .f32⟩
  | .local _ .vmem, ⟨6, _⟩ => ⟨S384x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S14x640, .f32⟩
  | .local _ .vmem, ⟨11, _⟩ => ⟨S12x256, .f32⟩
  | .local _ .vmem, ⟨12, _⟩ => ⟨S4x256, .f32⟩
  | .local _ .vmem, ⟨13, _⟩ => ⟨S1x128, .f32⟩
  | .local _ .vmem, ⟨14, _⟩ => ⟨S1x128, .f32⟩
  | .local _ .vmem, ⟨15, _⟩ => ⟨S128x256, .f32⟩
  | .local _ .vmem, ⟨16, _⟩ => ⟨S1x256, .f32⟩
  | .local _ .vmem, ⟨17, _⟩ => ⟨S1x256, .f32⟩
  | .local _ .vmem, ⟨18, _⟩ => ⟨S1x128, .f32⟩
  | .local _ .vmem, ⟨19, _⟩ => ⟨S1x128, .f32⟩
  | .local _ .vmem, ⟨20, _⟩ => ⟨S128x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1000x2560, .f32⟩
  | .local _ .vmem, ⟨26, _⟩ => ⟨S1000x2560, .f32⟩
  | .local _ .vmem, ⟨27, _⟩ => ⟨S1000x10, .f32⟩
  | .local _ .vmem, ⟨28, _⟩ => ⟨S1000x10, .f32⟩
  | _, _ => ⟨S20000x5x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_cst_0 : Ref sig .tc := ⟨.hbm, 26, rfl⟩
abbrev main_cst_1 : Ref sig .tc := ⟨.hbm, 27, rfl⟩
abbrev main_cst_2 : Ref sig .tc := ⟨.hbm, 28, rfl⟩
abbrev main_cst_3 : Ref sig .tc := ⟨.hbm, 29, rfl⟩
abbrev main_v0 : Ref sig .tc := ⟨.hbm, 30, rfl⟩
abbrev main_c : Ref sig .tc := ⟨.hbm, 31, rfl⟩
abbrev main_call0_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_4 : Ref sig .tc := ⟨.hbm, 47, rfl⟩
abbrev main_v15 : Ref sig .tc := ⟨.hbm, 48, rfl⟩
abbrev main_c_5 : Ref sig .tc := ⟨.hbm, 49, rfl⟩
abbrev main_c_6 : Ref sig .tc := ⟨.hbm, 50, rfl⟩
abbrev main_v16 : Ref sig .tc := ⟨.hbm, 51, rfl⟩
abbrev main_v17 : Ref sig .tc := ⟨.hbm, 52, rfl⟩
abbrev main_c_7 : Ref sig .tc := ⟨.hbm, 53, rfl⟩
abbrev main_c_8 : Ref sig .tc := ⟨.hbm, 54, rfl⟩
abbrev main_v18 : Ref sig .tc := ⟨.hbm, 55, rfl⟩
abbrev main_c_9 : Ref sig .tc := ⟨.hbm, 56, rfl⟩
abbrev main_c_10 : Ref sig .tc := ⟨.hbm, 57, rfl⟩
abbrev main_v19 : Ref sig .tc := ⟨.hbm, 58, rfl⟩
abbrev main_v20 : Ref sig .tc := ⟨.hbm, 59, rfl⟩
abbrev main_c_11 : Ref sig .tc := ⟨.hbm, 60, rfl⟩
abbrev main_c_12 : Ref sig .tc := ⟨.hbm, 61, rfl⟩
abbrev main_v21 : Ref sig .tc := ⟨.hbm, 62, rfl⟩
abbrev main_c_13 : Ref sig .tc := ⟨.hbm, 63, rfl⟩
abbrev main_c_14 : Ref sig .tc := ⟨.hbm, 64, rfl⟩
abbrev main_v22 : Ref sig .tc := ⟨.hbm, 65, rfl⟩
abbrev main_v23 : Ref sig .tc := ⟨.hbm, 66, rfl⟩
abbrev main_c_15 : Ref sig .tc := ⟨.hbm, 67, rfl⟩
abbrev main_c_16 : Ref sig .tc := ⟨.hbm, 68, rfl⟩
abbrev main_v24 : Ref sig .tc := ⟨.hbm, 69, rfl⟩
abbrev main_c_17 : Ref sig .tc := ⟨.hbm, 70, rfl⟩
abbrev main_c_18 : Ref sig .tc := ⟨.hbm, 71, rfl⟩
abbrev main_v25 : Ref sig .tc := ⟨.hbm, 72, rfl⟩
abbrev main_v26 : Ref sig .tc := ⟨.hbm, 73, rfl⟩
abbrev main_c_19 : Ref sig .tc := ⟨.hbm, 74, rfl⟩
abbrev main_c_20 : Ref sig .tc := ⟨.hbm, 75, rfl⟩
abbrev main_v27 : Ref sig .tc := ⟨.hbm, 76, rfl⟩
abbrev main_c_21 : Ref sig .tc := ⟨.hbm, 77, rfl⟩
abbrev main_c_22 : Ref sig .tc := ⟨.hbm, 78, rfl⟩
abbrev main_v28 : Ref sig .tc := ⟨.hbm, 79, rfl⟩
abbrev main_v29 : Ref sig .tc := ⟨.hbm, 80, rfl⟩
abbrev main_c_23 : Ref sig .tc := ⟨.hbm, 81, rfl⟩
abbrev main_c_24 : Ref sig .tc := ⟨.hbm, 82, rfl⟩
abbrev main_v30 : Ref sig .tc := ⟨.hbm, 83, rfl⟩
abbrev main_v31 : Ref sig .tc := ⟨.hbm, 84, rfl⟩
abbrev main_cst_25 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_c_26 : Ref sig .tc := ⟨.hbm, 89, rfl⟩
abbrev main_c_27 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_c_28 : Ref sig .tc := ⟨.hbm, 94, rfl⟩
abbrev main_c_29 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_c_30 : Ref sig .tc := ⟨.hbm, 99, rfl⟩
abbrev main_c_31 : Ref sig .tc := ⟨.hbm, 100, rfl⟩
abbrev main_v41 : Ref sig .tc := ⟨.hbm, 101, rfl⟩
abbrev main_v42 : Ref sig .tc := ⟨.hbm, 102, rfl⟩
abbrev main_c_32 : Ref sig .tc := ⟨.hbm, 103, rfl⟩
abbrev main_call1_v0 : Ref sig .tc := ⟨.hbm, 104, rfl⟩
abbrev main_v43 : Ref sig .tc := ⟨.hbm, 105, rfl⟩
abbrev main_v44 : Ref sig .tc := ⟨.hbm, 106, rfl⟩
abbrev main_c_33 : Ref sig .tc := ⟨.hbm, 107, rfl⟩
abbrev main_call2_v0 : Ref sig .tc := ⟨.hbm, 108, rfl⟩
abbrev main_v45 : Ref sig .tc := ⟨.hbm, 109, rfl⟩
abbrev main_v46 : Ref sig .tc := ⟨.hbm, 110, rfl⟩
abbrev main_c_34 : Ref sig .tc := ⟨.hbm, 111, rfl⟩
abbrev main_call3_v0 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_c_35 : Ref sig .tc := ⟨.hbm, 122, rfl⟩
abbrev main_v56 : Ref sig .tc := ⟨.hbm, 123, rfl⟩
abbrev main_v57_0 : Ref sig .tc := ⟨.hbm, 124, rfl⟩
abbrev main_v57_1 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg24_1 : Ref sig .tc := ⟨.vmem, 26, rfl⟩
abbrev cc0_stg25_0 : Ref sig .tc := ⟨.vmem, 27, rfl⟩
abbrev cc0_stg25_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem24_1 : DmaSem sig := 26
abbrev cc0_sem25_0 : DmaSem sig := 27
abbrev cc0_sem25_1 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x14 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x14 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x14 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S14x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S14x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1000x2560 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1000x10 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== KernelIdeal.lean ====
variable {F : FTy → Type} [FloatOps F] [Named F]
def κ : String → Option EReal := fun
  | "inv224" => some ((1 / 224 : ℝ) : EReal)
  | _ => none
-- ==== ReferenceIdeal.lean ====
abbrev S20000x5x2 : Shape := ⟨3, ![20000, 5, 2]⟩
abbrev S20000 : Shape := ⟨1, ![20000]⟩
abbrev S112x2x3 : Shape := ⟨3, ![112, 2, 3]⟩
abbrev S112 : Shape := ⟨1, ![112]⟩
abbrev S224x112x3 : Shape := ⟨3, ![224, 112, 3]⟩
abbrev S224 : Shape := ⟨1, ![224]⟩
abbrev S12x256 : Shape := ⟨2, ![12, 256]⟩
abbrev S4x256 : Shape := ⟨2, ![4, 256]⟩
abbrev S1x128 : Shape := ⟨2, ![1, 128]⟩
abbrev S128 : Shape := ⟨1, ![128]⟩
abbrev S128x256 : Shape := ⟨2, ![128, 256]⟩
abbrev S256 : Shape := ⟨1, ![256]⟩
abbrev S2 : Shape := ⟨1, ![2]⟩
abbrev S1x1x2 : Shape := ⟨3, ![1, 1, 2]⟩
abbrev S8 : Shape := ⟨1, ![8]⟩
abbrev S_ : Shape := ⟨0, ![]⟩
abbrev S20000x5x2x1 : Shape := ⟨4, ![20000, 5, 2, 1]⟩
abbrev S1x1x1x8 : Shape := ⟨4, ![1, 1, 1, 8]⟩
abbrev S20000x5x2x8 : Shape := ⟨4, ![20000, 5, 2, 8]⟩
abbrev S20000x5x2x16 : Shape := ⟨4, ![20000, 5, 2, 16]⟩
abbrev S20000x5x32 : Shape := ⟨3, ![20000, 5, 32]⟩
abbrev S20000x7x2 : Shape := ⟨3, ![20000, 7, 2]⟩
abbrev S112x2x1 : Shape := ⟨3, ![112, 2, 1]⟩
abbrev S112x2 : Shape := ⟨2, ![112, 2]⟩
abbrev S20000x5x112 : Shape := ⟨3, ![20000, 5, 112]⟩
abbrev S1x1x112 : Shape := ⟨3, ![1, 1, 112]⟩
abbrev S20000x7x112 : Shape := ⟨3, ![20000, 7, 112]⟩
abbrev S224x112x1 : Shape := ⟨3, ![224, 112, 1]⟩
abbrev S224x112 : Shape := ⟨2, ![224, 112]⟩
abbrev S20000x5x224 : Shape := ⟨3, ![20000, 5, 224]⟩
abbrev S1x1x224 : Shape := ⟨3, ![1, 1, 224]⟩
abbrev S20000x5 : Shape := ⟨2, ![20000, 5]⟩
abbrev S20000x5x1 : Shape := ⟨3, ![20000, 5, 1]⟩
abbrev S20000x5x256 : Shape := ⟨3, ![20000, 5, 256]⟩
abbrev S20000x1 : Shape := ⟨2, ![20000, 1]⟩
abbrev S1 : Shape := ⟨1, ![1]⟩
abbrev S1x1 : Shape := ⟨2, ![1, 1]⟩
abbrev S20000x256 : Shape := ⟨2, ![20000, 256]⟩
abbrev S20000x128 : Shape := ⟨2, ![20000, 128]⟩
abbrev S1x256 : Shape := ⟨2, ![1, 256]⟩
abbrev S20000x1x256 : Shape := ⟨3, ![20000, 1, 256]⟩
abbrev S20000x5x512 : Shape := ⟨3, ![20000, 5, 512]⟩
abbrev S1x100000 : Shape := ⟨2, ![1, 100000]⟩
abbrev S20000x2560 : Shape := ⟨2, ![20000, 2560]⟩
abbrev S20000x10 : Shape := ⟨2, ![20000, 10]⟩

abbrev nBuf : Space → Nat
  | .hbm => 261
  | .vmem => 0
  | .smem => 0
  | _ => 0

abbrev hbmTy0_0 (i : Nat) : BufTy := match i % 128 with
  | 0 => ⟨S20000x5x2, .f32⟩
  | 1 => ⟨S20000, .i32⟩
  | 2 => ⟨S20000, .i32⟩
  | 3 => ⟨S20000, .f32⟩
  | 4 => ⟨S20000, .i32⟩
  | 5 => ⟨S112x2x3, .f32⟩
  | 6 => ⟨S112, .f32⟩
  | 7 => ⟨S224x112x3, .f32⟩
  | 8 => ⟨S224, .f32⟩
  | 9 => ⟨S224, .f32⟩
  | 10 => ⟨S224, .f32⟩
  | 11 => ⟨S12x256, .f32⟩
  | 12 => ⟨S4x256, .f32⟩
  | 13 => ⟨S1x128, .f32⟩
  | 14 => ⟨S128, .f32⟩
  | 15 => ⟨S128x256, .f32⟩
  | 16 => ⟨S256, .f32⟩
  | 17 => ⟨S256, .f32⟩
  | 18 => ⟨S1x128, .f32⟩
  | 19 => ⟨S128, .f32⟩
  | 20 => ⟨S128x256, .f32⟩
  | 21 => ⟨S256, .f32⟩
  | 22 => ⟨S256, .f32⟩
  | 23 => ⟨S256, .f32⟩
  | 24 => ⟨S256, .f32⟩
  | 25 => ⟨S2, .f32⟩
  | 26 => ⟨S2, .f32⟩
  | 27 => ⟨S1x1x2, .f32⟩
  | 28 => ⟨S20000x5x2, .f32⟩
  | 29 => ⟨S20000x5x2, .f32⟩
  | 30 => ⟨S1x1x2, .f32⟩
  | 31 => ⟨S20000x5x2, .f32⟩
  | 32 => ⟨S20000x5x2, .f32⟩
  | 33 => ⟨S8, .f32⟩
  | 34 => ⟨S_, .f32⟩
  | 35 => ⟨S8, .f32⟩
  | 36 => ⟨S8, .f32⟩
  | 37 => ⟨S_, .f32⟩
  | 38 => ⟨S8, .f32⟩
  | 39 => ⟨S8, .f32⟩
  | 40 => ⟨S20000x5x2x1, .f32⟩
  | 41 => ⟨S1x1x1x8, .f32⟩
  | 42 => ⟨S20000x5x2x8, .f32⟩
  | 43 => ⟨S20000x5x2x8, .f32⟩
  | 44 => ⟨S20000x5x2x8, .f32⟩
  | 45 => ⟨S20000x5x2x8, .f32⟩
  | 46 => ⟨S20000x5x2x8, .f32⟩
  | 47 => ⟨S20000x5x2x16, .f32⟩
  | 48 => ⟨S20000x5x32, .f32⟩
  | 49 => ⟨S_, .i32⟩
  | 50 => ⟨S_, .f32⟩
  | 51 => ⟨S20000x7x2, .f32⟩
  | 52 => ⟨S20000x5x2, .f32⟩
  | 53 => ⟨S112x2x1, .f32⟩
  | 54 => ⟨S112x2, .f32⟩
  | 55 => ⟨S20000x5x112, .f32⟩
  | 56 => ⟨S_, .f32⟩
  | 57 => ⟨S20000x5x112, .f32⟩
  | 58 => ⟨S20000x5x112, .f32⟩
  | 59 => ⟨S20000x5x2, .f32⟩
  | 60 => ⟨S112x2x1, .f32⟩
  | 61 => ⟨S112x2, .f32⟩
  | 62 => ⟨S20000x5x112, .f32⟩
  | 63 => ⟨S20000x5x112, .f32⟩
  | 64 => ⟨S20000x5x2, .f32⟩
  | 65 => ⟨S112x2x1, .f32⟩
  | 66 => ⟨S112x2, .f32⟩
  | 67 => ⟨S20000x5x112, .f32⟩
  | 68 => ⟨S20000x5x112, .f32⟩
  | 69 => ⟨S1x1x112, .f32⟩
  | 70 => ⟨S20000x5x112, .f32⟩
  | 71 => ⟨S20000x5x112, .f32⟩
  | 72 => ⟨S_, .f32⟩
  | 73 => ⟨S20000x5x112, .f32⟩
  | 74 => ⟨S20000x5x112, .f32⟩
  | 75 => ⟨S_, .i32⟩
  | 76 => ⟨S_, .f32⟩
  | 77 => ⟨S20000x7x112, .f32⟩
  | 78 => ⟨S20000x5x112, .f32⟩
  | 79 => ⟨S224x112x1, .f32⟩
  | 80 => ⟨S224x112, .f32⟩
  | 81 => ⟨S20000x5x224, .f32⟩
  | 82 => ⟨S_, .f32⟩
  | 83 => ⟨S20000x5x224, .f32⟩
  | 84 => ⟨S20000x5x224, .f32⟩
  | 85 => ⟨S20000x5x112, .f32⟩
  | 86 => ⟨S224x112x1, .f32⟩
  | 87 => ⟨S224x112, .f32⟩
  | 88 => ⟨S20000x5x224, .f32⟩
  | 89 => ⟨S20000x5x224, .f32⟩
  | 90 => ⟨S20000x5x112, .f32⟩
  | 91 => ⟨S224x112x1, .f32⟩
  | 92 => ⟨S224x112, .f32⟩
  | 93 => ⟨S20000x5x224, .f32⟩
  | 94 => ⟨S20000x5x224, .f32⟩
  | 95 => ⟨S1x1x224, .f32⟩
  | 96 => ⟨S20000x5x224, .f32⟩
  | 97 => ⟨S20000x5x224, .f32⟩
  | 98 => ⟨S_, .f32⟩
  | 99 => ⟨S20000x5x224, .f32⟩
  | 100 => ⟨S20000x5x224, .f32⟩
  | 101 => ⟨S_, .f32⟩
  | 102 => ⟨S20000x5, .f32⟩
  | 103 => ⟨S20000x5x1, .f32⟩
  | 104 => ⟨S_, .f32⟩
  | 105 => ⟨S20000x5x1, .f32⟩
  | 106 => ⟨S20000x5x1, .f32⟩
  | 107 => ⟨S20000x5x224, .f32⟩
  | 108 => ⟨S20000x5x224, .f32⟩
  | 109 => ⟨S20000x5x224, .f32⟩
  | 110 => ⟨S20000x5x224, .f32⟩
  | 111 => ⟨S20000x5x224, .f32⟩
  | 112 => ⟨S_, .f32⟩
  | 113 => ⟨S20000x5, .f32⟩
  | 114 => ⟨S20000x5x1, .f32⟩
  | 115 => ⟨S_, .f32⟩
  | 116 => ⟨S20000x5x1, .f32⟩
  | 117 => ⟨S20000x5x1, .f32⟩
  | 118 => ⟨S20000x5x224, .f32⟩
  | 119 => ⟨S20000x5x224, .f32⟩
  | 120 => ⟨S_, .f32⟩
  | 121 => ⟨S20000x5x1, .f32⟩
  | 122 => ⟨S20000x5x1, .f32⟩
  | 123 => ⟨S20000x5x1, .f32⟩
  | 124 => ⟨S20000x5x224, .f32⟩
  | 125 => ⟨S20000x5x224, .f32⟩
  | 126 => ⟨S1x1x224, .f32⟩
  | 127 => ⟨S20000x5x224, .f32⟩
  | _ => ⟨S20000x5x2, .f32⟩

abbrev hbmTy0_1 (i : Nat) : BufTy := match i % 128 with
  | 0 => ⟨S20000x5x224, .f32⟩
  | 1 => ⟨S1x1x224, .f32⟩
  | 2 => ⟨S20000x5x224, .f32⟩
  | 3 => ⟨S20000x5x224, .f32⟩
  | 4 => ⟨S20000x5x256, .f32⟩
  | 5 => ⟨S_, .i32⟩
  | 6 => ⟨S20000, .i32⟩
  | 7 => ⟨S20000, .i1⟩
  | 8 => ⟨S_, .i32⟩
  | 9 => ⟨S20000, .i32⟩
  | 10 => ⟨S20000, .i32⟩
  | 11 => ⟨S20000, .i32⟩
  | 12 => ⟨S20000x1, .i32⟩
  | 13 => ⟨S1, .i32⟩
  | 14 => ⟨S_, .i32⟩
  | 15 => ⟨S20000x1, .i32⟩
  | 16 => ⟨S20000x1, .i1⟩
  | 17 => ⟨S1x1, .i32⟩
  | 18 => ⟨S20000x1, .i32⟩
  | 19 => ⟨S20000x1, .i1⟩
  | 20 => ⟨S20000x1, .i1⟩
  | 21 => ⟨S_, .i1⟩
  | 22 => ⟨S20000, .i1⟩
  | 23 => ⟨S20000x256, .f32⟩
  | 24 => ⟨S20000x256, .i1⟩
  | 25 => ⟨S_, .f32⟩
  | 26 => ⟨S20000x256, .f32⟩
  | 27 => ⟨S20000x256, .f32⟩
  | 28 => ⟨S_, .i32⟩
  | 29 => ⟨S20000, .i32⟩
  | 30 => ⟨S20000, .i1⟩
  | 31 => ⟨S_, .i32⟩
  | 32 => ⟨S20000, .i32⟩
  | 33 => ⟨S20000, .i32⟩
  | 34 => ⟨S20000, .i32⟩
  | 35 => ⟨S20000x1, .i32⟩
  | 36 => ⟨S1, .i32⟩
  | 37 => ⟨S_, .i32⟩
  | 38 => ⟨S20000x1, .i32⟩
  | 39 => ⟨S20000x1, .i1⟩
  | 40 => ⟨S1x1, .i32⟩
  | 41 => ⟨S20000x1, .i32⟩
  | 42 => ⟨S20000x1, .i1⟩
  | 43 => ⟨S20000x1, .i1⟩
  | 44 => ⟨S_, .i1⟩
  | 45 => ⟨S20000, .i1⟩
  | 46 => ⟨S20000x256, .f32⟩
  | 47 => ⟨S20000x256, .i1⟩
  | 48 => ⟨S_, .f32⟩
  | 49 => ⟨S20000x256, .f32⟩
  | 50 => ⟨S20000x256, .f32⟩
  | 51 => ⟨S20000, .f32⟩
  | 52 => ⟨S20000x1, .f32⟩
  | 53 => ⟨S20000x128, .f32⟩
  | 54 => ⟨S1x128, .f32⟩
  | 55 => ⟨S20000x128, .f32⟩
  | 56 => ⟨S20000x128, .f32⟩
  | 57 => ⟨S_, .f32⟩
  | 58 => ⟨S20000x128, .f32⟩
  | 59 => ⟨S20000x128, .f32⟩
  | 60 => ⟨S20000x256, .f32⟩
  | 61 => ⟨S1x256, .f32⟩
  | 62 => ⟨S20000x256, .f32⟩
  | 63 => ⟨S20000x256, .f32⟩
  | 64 => ⟨S_, .i32⟩
  | 65 => ⟨S20000, .i32⟩
  | 66 => ⟨S20000, .i1⟩
  | 67 => ⟨S20000x1, .i1⟩
  | 68 => ⟨S1x256, .f32⟩
  | 69 => ⟨S20000x256, .i1⟩
  | 70 => ⟨S20000x256, .f32⟩
  | 71 => ⟨S20000x256, .f32⟩
  | 72 => ⟨S20000x1, .f32⟩
  | 73 => ⟨S20000x128, .f32⟩
  | 74 => ⟨S1x128, .f32⟩
  | 75 => ⟨S20000x128, .f32⟩
  | 76 => ⟨S20000x128, .f32⟩
  | 77 => ⟨S_, .f32⟩
  | 78 => ⟨S20000x128, .f32⟩
  | 79 => ⟨S20000x128, .f32⟩
  | 80 => ⟨S20000x256, .f32⟩
  | 81 => ⟨S1x256, .f32⟩
  | 82 => ⟨S20000x256, .f32⟩
  | 83 => ⟨S20000x256, .f32⟩
  | 84 => ⟨S_, .f32⟩
  | 85 => ⟨S20000, .f32⟩
  | 86 => ⟨S20000, .i1⟩
  | 87 => ⟨S20000x1, .i1⟩
  | 88 => ⟨S1x256, .f32⟩
  | 89 => ⟨S20000x256, .i1⟩
  | 90 => ⟨S20000x256, .f32⟩
  | 91 => ⟨S20000x256, .f32⟩
  | 92 => ⟨S20000x256, .f32⟩
  | 93 => ⟨S20000x256, .f32⟩
  | 94 => ⟨S20000x256, .f32⟩
  | 95 => ⟨S_, .f32⟩
  | 96 => ⟨S20000, .f32⟩
  | 97 => ⟨S20000x1, .f32⟩
  | 98 => ⟨S_, .f32⟩
  | 99 => ⟨S20000x1, .f32⟩
  | 100 => ⟨S20000x1, .f32⟩
  | 101 => ⟨S20000x256, .f32⟩
  | 102 => ⟨S20000x256, .f32⟩
  | 103 => ⟨S20000x256, .f32⟩
  | 104 => ⟨S20000x256, .f32⟩
  | 105 => ⟨S20000x256, .f32⟩
  | 106 => ⟨S_, .f32⟩
  | 107 => ⟨S20000, .f32⟩
  | 108 => ⟨S20000x1, .f32⟩
  | 109 => ⟨S_, .f32⟩
  | 110 => ⟨S20000x1, .f32⟩
  | 111 => ⟨S20000x1, .f32⟩
  | 112 => ⟨S20000x256, .f32⟩
  | 113 => ⟨S20000x256, .f32⟩
  | 114 => ⟨S_, .f32⟩
  | 115 => ⟨S20000x1, .f32⟩
  | 116 => ⟨S20000x1, .f32⟩
  | 117 => ⟨S20000x1, .f32⟩
  | 118 => ⟨S20000x256, .f32⟩
  | 119 => ⟨S20000x256, .f32⟩
  | 120 => ⟨S1x256, .f32⟩
  | 121 => ⟨S20000x256, .f32⟩
  | 122 => ⟨S20000x256, .f32⟩
  | 123 => ⟨S1x256, .f32⟩
  | 124 => ⟨S20000x256, .f32⟩
  | 125 => ⟨S20000x256, .f32⟩
  | 126 => ⟨S20000x1x256, .f32⟩
  | 127 => ⟨S20000x5x256, .f32⟩
  | _ => ⟨S20000x5x2, .f32⟩

abbrev hbmTy0_2 (i : Nat) : BufTy := match i % 128 with
  | 0 => ⟨S20000x5x512, .f32⟩
  | 1 => ⟨S_, .i1⟩
  | 2 => ⟨S1x100000, .i1⟩
  | 3 => ⟨S20000x2560, .f32⟩
  | 4 => ⟨S20000x10, .f32⟩
  | _ => ⟨S20000x5x2, .f32⟩

abbrev hbmTy (i : Nat) : BufTy := match i / 128 with
  | 0 => hbmTy0_0 i
  | 1 => hbmTy0_1 i
  | 2 => hbmTy0_2 i
  | _ => ⟨S20000x5x2, .f32⟩

abbrev bufTy : (tb : Table) → Fin (tcTables nBuf tb) → BufTy
  | .hbm, ⟨i, _⟩ => hbmTy i
  | _, _ => ⟨S20000x5x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_cst_0 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_cst_2 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c : Ref sig .tc := ⟨.hbm, 49, rfl⟩
abbrev main_call0_v0 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_3 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_4 : Ref sig .tc := ⟨.hbm, 72, rfl⟩
abbrev main_v40 : Ref sig .tc := ⟨.hbm, 73, rfl⟩
abbrev main_v41 : Ref sig .tc := ⟨.hbm, 74, rfl⟩
abbrev main_c_5 : Ref sig .tc := ⟨.hbm, 75, rfl⟩
abbrev main_call1_v0 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_6 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_7 : Ref sig .tc := ⟨.hbm, 98, rfl⟩
abbrev main_v62 : Ref sig .tc := ⟨.hbm, 99, rfl⟩
abbrev main_v63 : Ref sig .tc := ⟨.hbm, 100, rfl⟩
abbrev main_cst_8 : Ref sig .tc := ⟨.hbm, 101, rfl⟩
abbrev main_v64 : Ref sig .tc := ⟨.hbm, 102, rfl⟩
abbrev main_v65 : Ref sig .tc := ⟨.hbm, 103, rfl⟩
abbrev main_cst_9 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_10 : Ref sig .tc := ⟨.hbm, 112, rfl⟩
abbrev main_v73 : Ref sig .tc := ⟨.hbm, 113, rfl⟩
abbrev main_v74 : Ref sig .tc := ⟨.hbm, 114, rfl⟩
abbrev main_cst_11 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_12 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_call2_c : Ref sig .tc := ⟨.hbm, 133, rfl⟩
abbrev main_call2_v0 : Ref sig .tc := ⟨.hbm, 134, rfl⟩
abbrev main_call2_v1 : Ref sig .tc := ⟨.hbm, 135, rfl⟩
abbrev main_call2_c_0 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_call2_v5 : Ref sig .tc := ⟨.hbm, 140, rfl⟩
abbrev main_call2_c_1 : Ref sig .tc := ⟨.hbm, 141, rfl⟩
abbrev main_call2_c_2 : Ref sig .tc := ⟨.hbm, 142, rfl⟩
abbrev main_call2_v6 : Ref sig .tc := ⟨.hbm, 143, rfl⟩
abbrev main_call2_v7 : Ref sig .tc := ⟨.hbm, 144, rfl⟩
abbrev main_call2_v8 : Ref sig .tc := ⟨.hbm, 145, rfl⟩
abbrev main_call2_v9 : Ref sig .tc := ⟨.hbm, 146, rfl⟩
abbrev main_call2_v10 : Ref sig .tc := ⟨.hbm, 147, rfl⟩
abbrev main_call2_v11 : Ref sig .tc := ⟨.hbm, 148, rfl⟩
abbrev main_call2_c_3 : Ref sig .tc := ⟨.hbm, 149, rfl⟩
abbrev main_call2_v12 : Ref sig .tc := ⟨.hbm, 150, rfl⟩
abbrev main_call2_v13 : Ref sig .tc := ⟨.hbm, 151, rfl⟩
abbrev main_call2_v14 : Ref sig .tc := ⟨.hbm, 152, rfl⟩
abbrev main_call2_cst : Ref sig .tc := ⟨.hbm, 153, rfl⟩
abbrev main_call2_v15 : Ref sig .tc := ⟨.hbm, 154, rfl⟩
abbrev main_v91 : Ref sig .tc := ⟨.hbm, 155, rfl⟩
abbrev main_call3_c : Ref sig .tc := ⟨.hbm, 156, rfl⟩
abbrev main_call3_v0 : Ref sig .tc := ⟨.hbm, 157, rfl⟩
abbrev main_call3_v1 : Ref sig .tc := ⟨.hbm, 158, rfl⟩
abbrev main_call3_c_0 : Ref sig .tc := ⟨.hbm, 159, rfl⟩
abbrev main_call3_v2 : Ref sig .tc := ⟨.hbm, 160, rfl⟩
abbrev main_call3_v3 : Ref sig .tc := ⟨.hbm, 161, rfl⟩
abbrev main_call3_v4 : Ref sig .tc := ⟨.hbm, 162, rfl⟩
abbrev main_call3_v5 : Ref sig .tc := ⟨.hbm, 163, rfl⟩
abbrev main_call3_c_1 : Ref sig .tc := ⟨.hbm, 164, rfl⟩
abbrev main_call3_c_2 : Ref sig .tc := ⟨.hbm, 165, rfl⟩
abbrev main_call3_v6 : Ref sig .tc := ⟨.hbm, 166, rfl⟩
abbrev main_call3_v7 : Ref sig .tc := ⟨.hbm, 167, rfl⟩
abbrev main_call3_v8 : Ref sig .tc := ⟨.hbm, 168, rfl⟩
abbrev main_call3_v9 : Ref sig .tc := ⟨.hbm, 169, rfl⟩
abbrev main_call3_v10 : Ref sig .tc := ⟨.hbm, 170, rfl⟩
abbrev main_call3_v11 : Ref sig .tc := ⟨.hbm, 171, rfl⟩
abbrev main_call3_c_3 : Ref sig .tc := ⟨.hbm, 172, rfl⟩
abbrev main_call3_v12 : Ref sig .tc := ⟨.hbm, 173, rfl⟩
abbrev main_call3_v13 : Ref sig .tc := ⟨.hbm, 174, rfl⟩
abbrev main_call3_v14 : Ref sig .tc := ⟨.hbm, 175, rfl⟩
abbrev main_call3_cst : Ref sig .tc := ⟨.hbm, 176, rfl⟩
abbrev main_call3_v15 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_cst_13 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_c_14 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_call4_v0 : Ref sig .tc := ⟨.hbm, 197, rfl⟩
abbrev main_call4_v1 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_cst_15 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_cst_16 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_call5_v0 : Ref sig .tc := ⟨.hbm, 217, rfl⟩
abbrev main_call5_v1 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_cst_17 : Ref sig .tc := ⟨.hbm, 223, rfl⟩
abbrev main_v129 : Ref sig .tc := ⟨.hbm, 224, rfl⟩
abbrev main_v130 : Ref sig .tc := ⟨.hbm, 225, rfl⟩
abbrev main_cst_18 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_cst_19 : Ref sig .tc := ⟨.hbm, 234, rfl⟩
abbrev main_v138 : Ref sig .tc := ⟨.hbm, 235, rfl⟩
abbrev main_v139 : Ref sig .tc := ⟨.hbm, 236, rfl⟩
abbrev main_cst_20 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_cst_21 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_c_22 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩

abbrev nD : Nat := 1
abbrev τ : Topo := Topo.v7x

variable {F : FTy → Type} [FloatOps F]
-- ==== Proof.Runs.Kernel.lean ====
/- The run of the kernel's body: taken over from the generated module, whose budget the body passes. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple: on whole staging memrefs — the inputs' at their contents,
    the FORGOTTEN outputs' (24, 25) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg1 : Memref sig .tc .vmem S1000x18 .f32) (harg1 : arg1.IsWhole) (arg2 : Memref sig .tc .vmem S1x14 .f32) (harg2 : arg2.IsWhole) (arg3 : Memref sig .tc .vmem S1x14 .f32) (harg3 : arg3.IsWhole) (arg4 : Memref sig .tc .vmem S1x14 .f32) (harg4 : arg4.IsWhole) (arg5 : Memref sig .tc .vmem S14x640 .f32) (harg5 : arg5.IsWhole) (arg6 : Memref sig .tc .vmem S384x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S14x640 .f32) (harg10 : arg10.IsWhole) (arg11 : Memref sig .tc .vmem S12x256 .f32) (harg11 : arg11.IsWhole) (arg12 : Memref sig .tc .vmem S4x256 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S1000x2560 .f32) (harg25 : arg25.IsWhole) (arg26 : Memref sig .tc .vmem S1000x10 .f32) (harg26 : arg26.IsWhole)
    (x0 : Vec F S1000x18 .f32) (x1 : Vec F S1x14 .f32) (x2 : Vec F S1x14 .f32) (x3 : Vec F S1x14 .f32) (x4 : Vec F S14x640 .f32) (x5 : Vec F S384x256 .f32) (x6 : Vec F S1x256 .f32) (x7 : Vec F S1x256 .f32) (x8 : Vec F S1x256 .f32) (x9 : Vec F S14x640 .f32) (x10 : Vec F S12x256 .f32) (x11 : Vec F S4x256 .f32) (x12 : Vec F S1x128 .f32) (x13 : Vec F S1x128 .f32) (x14 : Vec F S128x256 .f32) (x15 : Vec F S1x256 .f32) (x16 : Vec F S1x256 .f32) (x17 : Vec F S1x128 .f32) (x18 : Vec F S1x128 .f32) (x19 : Vec F S128x256 .f32) (x20 : Vec F S1x256 .f32) (x21 : Vec F S1x256 .f32) (x22 : Vec F S1x256 .f32) (x23 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    intro E K
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _, _; isplitr; swap; · iexact H24
      ipureintro; rfl
    iexists _, _; isplitr; swap; · iexact H25
    ipureintro; rfl

end Cert.Kernel.Gen

end
-- ==== Proof.Frames.Kernel.lean ====
/- The run of the kernel and its frame, over the body's run: taken over from the generated module with that run. -/
module

public import proofs.«01_k».proof.Proof.Runs.Kernel
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (24, 25): nothing reads what the kernel leaves in them, so nothing
    of it is named (Lib/Pipeline/Dat.lean `Dat.toRForget`). -/
def forgets0 : Fin 26 → Bool := fun w => w.val == 24 || w.val == 25

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, h⟩ => Pipeline.Dat.unnamed (cfg := cfg0) ⟨24, h⟩ t
    | ⟨25, h⟩ => Pipeline.Dat.unnamed (cfg := cfg0) ⟨25, h⟩ t
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare d)
    ∗ (∃ d, owns (c : Thread nD τ) (ms0_25 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ (∃ d, owns (c : Thread nD τ) (ms0_24 t) fullShare d)
    ∗ (∃ d, owns (c : Thread nD τ) (ms0_25 t) fullShare d))

set_option maxHeartbeats 2400000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 24, 25) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 1560000 in
/-- `frame` without the counters: the argument arrays end unchanged. A staged input keeps its entry contents whatever
    the forgotten outputs hold, and an array that no window stages is never touched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r (h : Pipeline.RDat.FramePost (cfgs 0) (fun c => (dats m 0 c).toRForget forgets0) (V m) r) c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      (Pipeline.RDat.FramePost.arr_in h c 10 rfl).trans ((A_eq m c 10).trans (V_main_arg11 m c)),
      (Pipeline.RDat.FramePost.arr_in h c 11 rfl).trans ((A_eq m c 11).trans (V_main_arg12 m c)),
      (Pipeline.RDat.FramePost.arr_in h c 12 rfl).trans ((A_eq m c 12).trans (V_main_arg13 m c)),
      ((h c).2 main_arg14 (Pipeline.mem_restRefs_of main_arg14 (by decide) (by decide))).trans (V_main_arg14 m c),
      (Pipeline.RDat.FramePost.arr_in h c 14 rfl).trans ((A_eq m c 14).trans (V_main_arg15 m c)),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      (Pipeline.RDat.FramePost.arr_in h c 17 rfl).trans ((A_eq m c 17).trans (V_main_arg18 m c)),
      ((h c).2 main_arg19 (Pipeline.mem_restRefs_of main_arg19 (by decide) (by decide))).trans (V_main_arg19 m c),
      (Pipeline.RDat.FramePost.arr_in h c 19 rfl).trans ((A_eq m c 19).trans (V_main_arg20 m c)),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c)⟩) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  θ_run_and (unchanged m ρ) ((θ_run defs _ _).mono (fun _ h => h.2) (run_main_quiescent m ρ))

end Cert.Kernel.Gen

end
-- ==== Proof.Runs.KernelIdeal.lean ====
/- The run of the ideal kernel's body: taken over from the generated module, whose budget the body passes. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1000x18 .f32) (harg1 : arg1.IsWhole) (arg2 : Memref sig .tc .vmem S1x14 .f32) (harg2 : arg2.IsWhole) (arg3 : Memref sig .tc .vmem S1x14 .f32) (harg3 : arg3.IsWhole) (arg4 : Memref sig .tc .vmem S1x14 .f32) (harg4 : arg4.IsWhole) (arg5 : Memref sig .tc .vmem S14x640 .f32) (harg5 : arg5.IsWhole) (arg6 : Memref sig .tc .vmem S384x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S14x640 .f32) (harg10 : arg10.IsWhole) (arg11 : Memref sig .tc .vmem S12x256 .f32) (harg11 : arg11.IsWhole) (arg12 : Memref sig .tc .vmem S4x256 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S1000x2560 .f32) (harg25 : arg25.IsWhole) (arg26 : Memref sig .tc .vmem S1000x10 .f32) (harg26 : arg26.IsWhole)
    (x0 : Vec F S1000x18 .f32) (x1 : Vec F S1x14 .f32) (x2 : Vec F S1x14 .f32) (x3 : Vec F S1x14 .f32) (x4 : Vec F S14x640 .f32) (x5 : Vec F S384x256 .f32) (x6 : Vec F S1x256 .f32) (x7 : Vec F S1x256 .f32) (x8 : Vec F S1x256 .f32) (x9 : Vec F S14x640 .f32) (x10 : Vec F S12x256 .f32) (x11 : Vec F S4x256 .f32) (x12 : Vec F S1x128 .f32) (x13 : Vec F S1x128 .f32) (x14 : Vec F S128x256 .f32) (x15 : Vec F S1x256 .f32) (x16 : Vec F S1x256 .f32) (x17 : Vec F S1x128 .f32) (x18 : Vec F S1x128 .f32) (x19 : Vec F S128x256 .f32) (x20 : Vec F S1x256 .f32) (x21 : Vec F S1x256 .f32) (x22 : Vec F S1x256 .f32) (x23 : Vec F S1x256 .f32) :
    Σ' (L24 : List (View.Piece (Elt F) S1000x2560 .f32)), { L25 : List (View.Piece (Elt F) S1000x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]; · iexists _; iexact H24
    iexists _; iexact H25

end Cert.KernelIdeal.Gen

end
-- ==== Proof.Frames.KernelIdeal.lean ====
/- The run of the ideal kernel and its frame, over the body's run: taken over from the generated module with that run. -/
module

public import proofs.«01_k».proof.Proof.Runs.KernelIdeal
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 24 are of SEVERAL sizes (15 stores of `S1000x128`, `S1000x256`): cut into blocks of `![1000, 128]` they tile its block (checked by the kernel's evaluation: Lib/Ring.lean `Piece.tiledBy`), so they cover it. -/
theorem cover0_A_24 (c : Dev nD) (i : grid0.Coords) (arg1 : Memref sig .tc .vmem S1000x18 .f32) (harg1 : arg1.IsWhole) (arg2 : Memref sig .tc .vmem S1x14 .f32) (harg2 : arg2.IsWhole) (arg3 : Memref sig .tc .vmem S1x14 .f32) (harg3 : arg3.IsWhole) (arg4 : Memref sig .tc .vmem S1x14 .f32) (harg4 : arg4.IsWhole) (arg5 : Memref sig .tc .vmem S14x640 .f32) (harg5 : arg5.IsWhole) (arg6 : Memref sig .tc .vmem S384x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S14x640 .f32) (harg10 : arg10.IsWhole) (arg11 : Memref sig .tc .vmem S12x256 .f32) (harg11 : arg11.IsWhole) (arg12 : Memref sig .tc .vmem S4x256 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S1000x2560 .f32) (harg25 : arg25.IsWhole) (arg26 : Memref sig .tc .vmem S1000x10 .f32) (harg26 : arg26.IsWhole)
    (x0 : Vec F S1000x18 .f32) (x1 : Vec F S1x14 .f32) (x2 : Vec F S1x14 .f32) (x3 : Vec F S1x14 .f32) (x4 : Vec F S14x640 .f32) (x5 : Vec F S384x256 .f32) (x6 : Vec F S1x256 .f32) (x7 : Vec F S1x256 .f32) (x8 : Vec F S1x256 .f32) (x9 : Vec F S14x640 .f32) (x10 : Vec F S12x256 .f32) (x11 : Vec F S4x256 .f32) (x12 : Vec F S1x128 .f32) (x13 : Vec F S1x128 .f32) (x14 : Vec F S128x256 .f32) (x15 : Vec F S1x256 .f32) (x16 : Vec F S1x256 .f32) (x17 : Vec F S1x128 .f32) (x18 : Vec F S1x128 .f32) (x19 : Vec F S128x256 .f32) (x20 : Vec F S1x256 .f32) (x21 : Vec F S1x256 .f32) (x22 : Vec F S1x256 .f32) (x23 : Vec F S1x256 .f32) (y : S1000x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).1 ![1000, 128] (by sl_kernel_rfl) y

/-- What the run leaves in output 24's staging buffer: its pieces read back over junk. -/
def out0_A_24 (c : Dev nD) (i : grid0.Coords) (arg1 : Memref sig .tc .vmem S1000x18 .f32) (harg1 : arg1.IsWhole) (arg2 : Memref sig .tc .vmem S1x14 .f32) (harg2 : arg2.IsWhole) (arg3 : Memref sig .tc .vmem S1x14 .f32) (harg3 : arg3.IsWhole) (arg4 : Memref sig .tc .vmem S1x14 .f32) (harg4 : arg4.IsWhole) (arg5 : Memref sig .tc .vmem S14x640 .f32) (harg5 : arg5.IsWhole) (arg6 : Memref sig .tc .vmem S384x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S14x640 .f32) (harg10 : arg10.IsWhole) (arg11 : Memref sig .tc .vmem S12x256 .f32) (harg11 : arg11.IsWhole) (arg12 : Memref sig .tc .vmem S4x256 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S1000x2560 .f32) (harg25 : arg25.IsWhole) (arg26 : Memref sig .tc .vmem S1000x10 .f32) (harg26 : arg26.IsWhole)
    (x0 : Vec F S1000x18 .f32) (x1 : Vec F S1x14 .f32) (x2 : Vec F S1x14 .f32) (x3 : Vec F S1x14 .f32) (x4 : Vec F S14x640 .f32) (x5 : Vec F S384x256 .f32) (x6 : Vec F S1x256 .f32) (x7 : Vec F S1x256 .f32) (x8 : Vec F S1x256 .f32) (x9 : Vec F S14x640 .f32) (x10 : Vec F S12x256 .f32) (x11 : Vec F S4x256 .f32) (x12 : Vec F S1x128 .f32) (x13 : Vec F S1x128 .f32) (x14 : Vec F S128x256 .f32) (x15 : Vec F S1x256 .f32) (x16 : Vec F S1x256 .f32) (x17 : Vec F S1x128 .f32) (x18 : Vec F S1x128 .f32) (x19 : Vec F S128x256 .f32) (x20 : Vec F S1x256 .f32) (x21 : Vec F S1x256 .f32) (x22 : Vec F S1x256 .f32) (x23 : Vec F S1x256 .f32) : Vec F S1000x2560 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).1)

/-- The run's pieces for output 25 tile its block (1 store of `S1000x10`, checked by the kernel's evaluation: Lib/Ring.lean `Piece.tiledL`, linear in the pieces, through a loop's `@[irreducible]` trip theorem too), so they cover it. -/
theorem cover0_A_25 (c : Dev nD) (i : grid0.Coords) (arg1 : Memref sig .tc .vmem S1000x18 .f32) (harg1 : arg1.IsWhole) (arg2 : Memref sig .tc .vmem S1x14 .f32) (harg2 : arg2.IsWhole) (arg3 : Memref sig .tc .vmem S1x14 .f32) (harg3 : arg3.IsWhole) (arg4 : Memref sig .tc .vmem S1x14 .f32) (harg4 : arg4.IsWhole) (arg5 : Memref sig .tc .vmem S14x640 .f32) (harg5 : arg5.IsWhole) (arg6 : Memref sig .tc .vmem S384x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S14x640 .f32) (harg10 : arg10.IsWhole) (arg11 : Memref sig .tc .vmem S12x256 .f32) (harg11 : arg11.IsWhole) (arg12 : Memref sig .tc .vmem S4x256 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S1000x2560 .f32) (harg25 : arg25.IsWhole) (arg26 : Memref sig .tc .vmem S1000x10 .f32) (harg26 : arg26.IsWhole)
    (x0 : Vec F S1000x18 .f32) (x1 : Vec F S1x14 .f32) (x2 : Vec F S1x14 .f32) (x3 : Vec F S1x14 .f32) (x4 : Vec F S14x640 .f32) (x5 : Vec F S384x256 .f32) (x6 : Vec F S1x256 .f32) (x7 : Vec F S1x256 .f32) (x8 : Vec F S1x256 .f32) (x9 : Vec F S14x640 .f32) (x10 : Vec F S12x256 .f32) (x11 : Vec F S4x256 .f32) (x12 : Vec F S1x128 .f32) (x13 : Vec F S1x128 .f32) (x14 : Vec F S128x256 .f32) (x15 : Vec F S1x256 .f32) (x16 : Vec F S1x256 .f32) (x17 : Vec F S1x128 .f32) (x18 : Vec F S1x128 .f32) (x19 : Vec F S128x256 .f32) (x20 : Vec F S1x256 .f32) (x21 : Vec F S1x256 .f32) (x22 : Vec F S1x256 .f32) (x23 : Vec F S1x256 .f32) (y : S1000x10.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).2.1 S1000x10.size (by sl_kernel_rfl) y

/-- What the run leaves in output 25's staging buffer: its pieces read back over junk. -/
def out0_A_25 (c : Dev nD) (i : grid0.Coords) (arg1 : Memref sig .tc .vmem S1000x18 .f32) (harg1 : arg1.IsWhole) (arg2 : Memref sig .tc .vmem S1x14 .f32) (harg2 : arg2.IsWhole) (arg3 : Memref sig .tc .vmem S1x14 .f32) (harg3 : arg3.IsWhole) (arg4 : Memref sig .tc .vmem S1x14 .f32) (harg4 : arg4.IsWhole) (arg5 : Memref sig .tc .vmem S14x640 .f32) (harg5 : arg5.IsWhole) (arg6 : Memref sig .tc .vmem S384x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S14x640 .f32) (harg10 : arg10.IsWhole) (arg11 : Memref sig .tc .vmem S12x256 .f32) (harg11 : arg11.IsWhole) (arg12 : Memref sig .tc .vmem S4x256 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S1000x2560 .f32) (harg25 : arg25.IsWhole) (arg26 : Memref sig .tc .vmem S1000x10 .f32) (harg26 : arg26.IsWhole)
    (x0 : Vec F S1000x18 .f32) (x1 : Vec F S1x14 .f32) (x2 : Vec F S1x14 .f32) (x3 : Vec F S1x14 .f32) (x4 : Vec F S14x640 .f32) (x5 : Vec F S384x256 .f32) (x6 : Vec F S1x256 .f32) (x7 : Vec F S1x256 .f32) (x8 : Vec F S1x256 .f32) (x9 : Vec F S14x640 .f32) (x10 : Vec F S12x256 .f32) (x11 : Vec F S4x256 .f32) (x12 : Vec F S1x128 .f32) (x13 : Vec F S1x128 .f32) (x14 : Vec F S128x256 .f32) (x15 : Vec F S1x256 .f32) (x16 : Vec F S1x256 .f32) (x17 : Vec F S1x128 .f32) (x18 : Vec F S1x128 .f32) (x19 : Vec F S128x256 .f32) (x20 : Vec F S1x256 .f32) (x21 : Vec F S1x256 .f32) (x22 : Vec F S1x256 .f32) (x23 : Vec F S1x256 .f32) : Vec F S1000x10 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).2.1)

/-! ## What the outputs hold after each point -/

/-- What the outputs' staging buffers hold after the body at point `t` (as a tuple, in window order): the run's contents at
    the point's memrefs and input blocks. -/
def outsAt0 (c : Dev nD) (t : Fin cfg0.N) : Vec F S1000x2560 .f32 × Vec F S1000x10 .f32 :=
  (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t).1
    | ⟨25, _⟩ => (outsAt0 m c t).2
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outsAt0 m c t).1 := by dsimp only [dats]
theorem after0_25 (c : Dev nD) (t : Fin cfg0.N) : (dats m 0 c).after 25 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2400000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  unfold outsAt0
  unfold out0_A_24 out0_A_25; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, ⟨%e24, H24⟩, ⟨%e25, H25⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H25
  ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  θ_run_and (unchanged m ρ) ((θ_run defs _ _).mono (fun _ h => h.2) (run_main_quiescent m ρ))

end Cert.KernelIdeal.Gen

end
-- ==== Proof.Blocks.lean ====
/- The ideal kernel's results block by block: taken over from the generated module with the body's run. -/
module

public import proofs.«01_k».proof.Proof.Frames.KernelIdeal
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 24's array: the run's contents for that window after the body (`Gen.outsAt0`: its component 0), read through the window's block. -/
theorem flushed24 (c : Dev nD) (t : Fin cfg0.N) :
    (dats m 0 c).flushed 24 t = (cfg0.win 24).cut (grid0.coords t) ((outsAt0 m c t).1) := by
  show (cfg0.win 24).cut (grid0.coords t) ((dats m 0 c).after 24 t) = _
  rw [after0_24]

/-- … so at a point where case A runs, what its write-back would write is that case's NAMED TERM for the window (`Gen.out0_A_24`: the pieces
    its run found, read back) at the point's memrefs and input blocks, and for an output the case reads back what the point before left (`Gen.outsAt0` at `t - 1`) — the kernel's one case, `Gen.outsAt0` by definition. -/
theorem flushed24_A (c : Dev nD) (t : Fin cfg0.N) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed24, outsAt0]

/-- The index map sends distinct grid points to distinct block indices (decided over the 20 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S20000x2560.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- WHAT POINT `t` WRITES BACK to output window 25's array: the run's contents for that window after the body (`Gen.outsAt0`: its component 1), read through the window's block. -/
theorem flushed25 (c : Dev nD) (t : Fin cfg0.N) :
    (dats m 0 c).flushed 25 t = (cfg0.win 25).cut (grid0.coords t) ((outsAt0 m c t).2) := by
  show (cfg0.win 25).cut (grid0.coords t) ((dats m 0 c).after 25 t) = _
  rw [after0_25]

/-- … so at a point where case A runs, what its write-back would write is that case's NAMED TERM for the window (`Gen.out0_A_25`: the pieces
    its run found, read back) at the point's memrefs and input blocks, and for an output the case reads back what the point before left (`Gen.outsAt0` at `t - 1`) — the kernel's one case, `Gen.outsAt0` by definition. -/
theorem flushed25_A (c : Dev nD) (t : Fin cfg0.N) :
    (dats m 0 c).flushed 25 t = (cfg0.win 25).cut (grid0.coords t) (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed25, outsAt0]

/-- The index map sends distinct grid points to distinct block indices (decided over the 20 points). -/
theorem idx_inj25 : ∀ t t' : Fin cfg0.N, win0_25.index t = win0_25.index t' → t = t' :=
  (by decide +kernel : ∀ t t' : Fin grid0.N, win0_25.index t = win0_25.index t' → t = t')

/-- So two flushing points' blocks share no array index (Lib/Pipeline/Cells.lean `Window.disjoint_blk`). -/
theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

/-- BLOCK `t` OF THE FINAL ARRAY, read back through the window, is what point `t` wrote back (`flushed25`), for every
    point that writes back: no other point's block meets it. -/
theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

/-- An index that no flushing point's block covers keeps output window 25's array contents at region entry. -/
theorem entry25 (c : Dev nD) (i : S20000x10.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v57_0) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v57_1) = (dats m 0 c).arrAt 25 cfg0.N :=
  (h c).1 25

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: input window 10 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 10).trans (((dats m 0 c).arrAt_in 10 rfl _).trans ((A_eq m c 10).trans (V_main_arg11 m c)))

/-- After the frame run, argument `main_arg12` is as launched: input window 11 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 11).trans (((dats m 0 c).arrAt_in 11 rfl _).trans ((A_eq m c 11).trans (V_main_arg12 m c)))

/-- After the frame run, argument `main_arg13` is as launched: input window 12 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 12).trans (((dats m 0 c).arrAt_in 12 rfl _).trans ((A_eq m c 12).trans (V_main_arg13 m c)))

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: input window 14 stages it and never writes it back. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 14).trans (((dats m 0 c).arrAt_in 14 rfl _).trans ((A_eq m c 14).trans (V_main_arg15 m c)))

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: input window 17 stages it and never writes it back. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).1 17).trans (((dats m 0 c).arrAt_in 17 rfl _).trans ((A_eq m c 17).trans (V_main_arg18 m c)))

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: input window 19 stages it and never writes it back. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).1 19).trans (((dats m 0 c).arrAt_in 19 rfl _).trans ((A_eq m c 19).trans (V_main_arg20 m c)))

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- After the frame run, argument `main_arg22` is as launched: no window stages it, and the run leaves the region's other buffers as they were. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)

/-- After the frame run, argument `main_arg23` is as launched: no window stages it, and the run leaves the region's other buffers as they were. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)

/-- After the frame run, argument `main_arg24` is as launched: no window stages it, and the run leaves the region's other buffers as they were. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_main_arg24 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v57_0) = (dats m 0 c).arrAt 24 cfg0.N
      ∧ r.2.mem ((c : Thread nD τ).loc main_v57_1) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨post24 m r h c,
      post25 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c⟩)
    (run_main m ρ)

end Cert.KernelIdeal.Value

end
-- ==== Proof.LayerNorm.lean ====
/- Layer normalization over the extended reals: the two ways in which the kernel and the reference write it. -/
module

public import Idealize.ShloMosaic.Lib.Pointwise

@[expose] public section

noncomputable section

namespace Cert.Norm

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.sum {ι : Type} (s : Finset ι) {f : ι → EReal} (h : ∀ i, IsReal (f i)) : IsReal (∑ i ∈ s, f i) := by
  classical
  induction s using Finset.induction_on with
  | empty => simpa using IsReal.zero
  | insert a s ha ih => rw [Finset.sum_insert ha]; exact (h a).add ih

/-- A number whose absolute value is below infinity is real. -/
theorem IsReal.of_abs_lt {x : EReal} (h : Max.max x (-x) < ⊤) : IsReal x := by
  induction x using EReal.rec with
  | bot => simp at h
  | coe r => exact ⟨r, rfl⟩
  | top => simp at h

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by the root of a positive number is multiplying by its reciprocal root, at infinity too. -/
theorem div_sqrt (x : EReal) {y : EReal} (hy : 0 < y) : Ideal.div x (Ideal.sqrt y) = x * Ideal.rsqrt y := by
  induction y using EReal.rec with
  | bot => simp at hy
  | top => simp [Ideal.div]
  | coe r =>
    have hr : 0 < r := by exact_mod_cast hy
    have hs : Real.sqrt r ≠ 0 := (Real.sqrt_pos.2 hr).ne'
    rw [Ideal.rsqrt_coe, if_neg (not_lt.2 hr.le), if_neg hr.ne']
    have : Ideal.sqrt (r : EReal) = ((Real.sqrt r : ℝ) : EReal) := by
      simp [not_lt.2 hr.le]
    rw [this, Ideal.div_coe hs, one_div]

theorem square_nonneg (x : EReal) : 0 ≤ x * x := by
  induction x using EReal.rec with
  | bot => simp
  | top => simp
  | coe r => exact_mod_cast mul_self_nonneg r

/-- A mean of squares plus a positive number is positive. -/
theorem var_pos {ι : Type} [Fintype ι] (d : ι → EReal) {n : ℝ} (hn : 0 < n) {e : EReal} (he : 0 < e) :
    0 < Ideal.div (∑ i, d i * d i) (n : EReal) + e := by
  rw [Ideal.div_coe hn.ne']
  have h1 : (0 : EReal) ≤ ∑ i, d i * d i := Finset.sum_nonneg fun i _ => square_nonneg _
  have h2 : (0 : EReal) ≤ ((1 / n : ℝ) : EReal) := by exact_mod_cast (one_div_pos.2 hn).le
  exact lt_of_lt_of_le he (le_add_of_nonneg_left (mul_nonneg h1 h2))

/-- The two-pass layer normalization of the reference. -/
def two {n : ℕ} (N e : EReal) (x g b : Fin n → EReal) (j : Fin n) : EReal :=
  Ideal.div (x j - Ideal.div (∑ i, x i) N)
      (Ideal.sqrt (Ideal.div (∑ i, (x i - Ideal.div (∑ i, x i) N) * (x i - Ideal.div (∑ i, x i) N)) N + e)) * g j + b j

/-- The two-pass layer normalization with a reciprocal root, as the kernel takes it of the semantic features. -/
def twoR {n : ℕ} (N e : EReal) (x g b : Fin n → EReal) (j : Fin n) : EReal :=
  (x j - Ideal.div (∑ i, x i) N)
      * Ideal.rsqrt (Ideal.div (∑ i, (x i - Ideal.div (∑ i, x i) N) * (x i - Ideal.div (∑ i, x i) N)) N + e) * g j + b j

theorem twoR_eq {n : ℕ} {N : ℝ} (hN : 0 < N) {e : EReal} (he : 0 < e) (x g b : Fin n → EReal) (j : Fin n) :
    twoR N e x g b j = two N e x g b j := by
  unfold twoR two
  rw [div_sqrt _ (var_pos _ hN he)]

/-- The one-pass layer normalization that the kernel takes of the geometry features: the mean and the mean of the
    squares by one multiplication each. -/
def one {n : ℕ} (q e : EReal) (x g b : Fin n → EReal) (j : Fin n) : EReal :=
  (x j - (∑ i, x i) * q) * (Ideal.rsqrt ((∑ i, x i * x i) * q - (∑ i, x i) * q * ((∑ i, x i) * q) + e) * g j) + b j

/-- The variance in one pass is the variance in two, for real numbers. -/
theorem var_eq {n : ℕ} (hn : 0 < n) (x : Fin n → ℝ) :
    (∑ i, x i * x i) * (1 / (n : ℝ)) - (∑ i, x i) * (1 / (n : ℝ)) * ((∑ i, x i) * (1 / (n : ℝ)))
      = (∑ i, (x i - (∑ i, x i) * (1 / (n : ℝ))) * (x i - (∑ i, x i) * (1 / (n : ℝ)))) * (1 / (n : ℝ)) := by
  have hn' : (n : ℝ) ≠ 0 := by exact_mod_cast hn.ne'
  generalize hm : (∑ i, x i) * (1 / (n : ℝ)) = m
  have hS : ∑ i, x i = n * m := by rw [← hm]; field_simp
  have : ∑ i, (x i - m) * (x i - m) = ∑ i, x i * x i - 2 * m * ∑ i, x i + n * (m * m) := by
    have : ∀ i, (x i - m) * (x i - m) = x i * x i - 2 * m * x i + m * m := fun i => by ring
    simp only [this, Finset.sum_add_distrib, Finset.sum_sub_distrib, ← Finset.mul_sum, Finset.sum_const,
      Finset.card_univ, Fintype.card_fin, nsmul_eq_mul]
    ring
  rw [this, hS]
  field_simp
  ring

/-- The one-pass normalization of `n` real numbers behind any number of zeros is the two-pass normalization of the
    numbers alone. -/
theorem one_eq {n k : ℕ} (hn : 0 < n) {e : EReal} (he : 0 < e) (x : Fin (k + n) → EReal) (g b : Fin (k + n) → EReal)
    (hz : ∀ i : Fin k, x (Fin.castAdd n i) = 0) (hr : ∀ i, IsReal (x i)) (j : Fin n) :
    one ((1 / (n : ℝ) : ℝ) : EReal) e x g b (Fin.natAdd k j)
      = two ((n : ℝ) : EReal) e (fun i => x (Fin.natAdd k i)) (fun i => g (Fin.natAdd k i)) (fun i => b (Fin.natAdd k i)) j := by
  have hn' : (n : ℝ) ≠ 0 := by exact_mod_cast hn.ne'
  choose r hr using hr
  have e1 : ∑ i, x i = ∑ i : Fin n, x (Fin.natAdd k i) := by
    rw [Fin.sum_univ_add]; simp [hz]
  have e2 : ∑ i, x i * x i = ∑ i : Fin n, x (Fin.natAdd k i) * x (Fin.natAdd k i) := by
    rw [Fin.sum_univ_add]; simp [hz]
  have hpos := var_pos (fun i : Fin n => x (Fin.natAdd k i) - Ideal.div (∑ i : Fin n, x (Fin.natAdd k i)) ((n : ℝ) : EReal))
    (n := (n : ℝ)) (by exact_mod_cast hn) he
  unfold one two
  rw [div_sqrt _ hpos, e1, e2]
  simp only [Ideal.div_coe hn']
  congr 1
  rw [← mul_assoc]
  congr 2
  refine congrArg (fun v => Ideal.rsqrt (v + e)) ?_
  simp only [hr, ← EReal.coe_mul, ← coe_sum, ← EReal.coe_sub]
  rw [var_eq hn fun i => r (Fin.natAdd k i)]

end Cert.Norm

end
-- ==== Proof.Row.lean ====
/- What the kernel computes for one way (one row of its blocks), as functions of the row and of the operand arrays. -/
module

public import proofs.«01_k».proof.Proof.LayerNorm

@[expose] public section

noncomputable section

namespace Cert.Row

open Idealize.ShloMosaic Cert.Norm

/-- The number that the layer normalizations add to the variance. -/
abbrev eps : EReal := Ideal.ofBits .f32 0x3727C5AC#32

/-- The number of semantic features. -/
abbrev n256 : EReal := Ideal.ofBits .f32 0x43800000#32

/-- Minus one: a missing lane count, a missing width. -/
abbrev missing : EReal := Ideal.ofBits .f32 0xBF800000#32

/-- The padded, normalized coordinates of the way: one zero point, its five points, one zero point. -/
def cpad (x : Fin 18 → EReal) (sc sh : Fin 14 → EReal) (j : Fin 14) : EReal :=
  x ⟨j, by omega⟩ * sc j + sh j

/-- The row of a table that a product with a one-hot row takes out. -/
def pick {n : ℕ} (id : EReal) (tab : Fin n → Fin 256 → EReal) (l : Fin 256) : EReal :=
  ∑ x : Fin n, (FloatOps.sitofp (F := Ideal) .f32 (BitVec.setWidth 32 (BitVec.ofBool (decide
    (id = (FloatOps.sitofp (F := Ideal) .f32 (BitVec.ofNat 32 ↑x) : EReal))))) : EReal) * tab x l

/-- The embedding of one number by a perceptron with one hidden layer, or the learned row where the number is missing. -/
def gate (x : EReal) (w1 b1 : Fin 128 → EReal) (w2 : Fin 128 → Fin 256 → EReal) (b2 mask : Fin 256 → EReal)
    (l : Fin 256) : EReal :=
  if x ≠ missing then ∑ k : Fin 128, max (x * w1 k + b1 k) 0 * w2 k l + b2 l else mask l

/-- The first convolution's features of all points, 128 lanes a point. -/
def y1 (c one : Fin 14 → EReal) (w : Fin 14 → Fin 640 → EReal) (l : Fin 640) : EReal :=
  max (∑ j : Fin 14, (c j + one j) * w j l) 0

/-- The same with one zero point on either side. -/
def y1f (y : Fin 640 → EReal) (l : Fin 896) : EReal :=
  if _h : (l : ℕ) < 128 then 0 else if h : (l : ℕ) - 128 < 640 then y ⟨l - 128, h⟩ else 0

/-- Three neighbouring points of it. -/
def window (y : Fin 896 → EReal) (p : Fin 5) (q : Fin 384) : EReal := y ⟨128 * p + q, by omega⟩

/-- The second convolution's features of one point, behind 32 lanes for the encoding. -/
def x2 (y : Fin 384 → EReal) (w : Fin 384 → Fin 256 → EReal) (b : Fin 256 → EReal) (l : Fin 256) : EReal :=
  max (∑ q : Fin 384, y q * w q l + b l) 0

end Cert.Row

end
-- ==== Proof.Pay.lean ====
/- The kernel's payloads read at an element: each is a function of one row. -/
module

public import proofs.«01_k».proof.Proof.Row
public import proofs.«01_k».proof.Proof.Gen.KernelIdeal
public import proofs.«01_k».proof.Proof.Gen.KernelIdeal.Skeleton

@[expose] public section

set_option maxRecDepth 16384

noncomputable section

namespace Cert.Pay

open Idealize.ShloMosaic Cert.KernelIdeal Cert.KernelIdeal.Gen Cert.Row Cert.Norm

/-- One part in 224, by its name. -/
abbrev inv224 : EReal := Named.named (F := Ideal) (φ := .f32) κ "inv224" 0x3B924925#32

/-- The name means the rational number. -/
theorem inv224_eq : inv224 = ((1 / (224 : ℝ) : ℝ) : EReal) := IdealRules.named_const.ideal_named_scalar _ _ _ _ rfl

theorem coords_apply (v0 : FVec Ideal S1000x18 .f32) (v3 v7 : FVec Ideal S1x14 .f32) (r : Fin 1000) (j : Fin 14) :
    k0_pay5 (F := Ideal) v0 v3 v7 (ix2 r j)
      = cpad (fun i => v0 (ix2 r i)) (fun i => v3 (ix2 0 i)) (fun i => v7 (ix2 0 i)) j := by
  pointwise [k0_pay5, k0_pay4]
  rfl

theorem coordsOut_apply (v0 : FVec Ideal S1000x18 .f32) (v3 v7 : FVec Ideal S1x14 .f32) (r : Fin 1000) (j : Fin 10) :
    k0_pay6 (F := Ideal) v0 v3 v7 (ix2 r j)
      = cpad (fun i => v0 (ix2 r i)) (fun i => v3 (ix2 0 i)) (fun i => v7 (ix2 0 i)) ⟨2 + j, by omega⟩ := by
  pointwise [k0_pay6, k0_pay5, k0_pay4]
  rfl

theorem highway_apply (v0 : FVec Ideal S1000x18 .f32) (v3 : FVec Ideal S12x256 .f32) (r : Fin 1000) (l : Fin 256) :
    k0_pay9 (F := Ideal) v0 v3 (ix2 r l) = pick (v0 (ix2 r 14)) (fun a b => v3 (ix2 a b)) l := by
  pointwise [k0_pay9, k0_pay4]
  rfl

theorem city_apply (v0 : FVec Ideal S1000x18 .f32) (v3 : FVec Ideal S4x256 .f32) (r : Fin 1000) (l : Fin 256) :
    k0_pay10 (F := Ideal) v0 v3 (ix2 r l) = pick (v0 (ix2 r 17)) (fun a b => v3 (ix2 a b)) l := by
  pointwise [k0_pay10, k0_pay4]
  rfl

theorem lanes_apply (v0 : FVec Ideal S1000x18 .f32) (v33 v37 : FVec Ideal S1x128 .f32) (v43 : FVec Ideal S128x256 .f32)
    (v45 v51 : FVec Ideal S1x256 .f32) (r : Fin 1000) (l : Fin 256) :
    k0_pay13 (F := Ideal) (k0_pay7 v0) (k0_pay11 v0 v33) (k0_pay12 v37) v43 v45 v51 (ix2 r l)
      = gate (v0 (ix2 r 15)) (fun i => v33 (ix2 0 i)) (fun i => v37 (ix2 0 i)) (fun a b => v43 (ix2 a b))
          (fun i => v45 (ix2 0 i)) (fun i => v51 (ix2 0 i)) l := by
  pointwise [k0_pay13, k0_pay7, k0_pay11, k0_pay12, k0_pay4]
  rfl

theorem width_apply (v0 : FVec Ideal S1000x18 .f32) (v33 v37 : FVec Ideal S1x128 .f32) (v43 : FVec Ideal S128x256 .f32)
    (v45 v51 : FVec Ideal S1x256 .f32) (r : Fin 1000) (l : Fin 256) :
    Scalar.select (k0_pay15 (F := Ideal) (k0_pay8 v0) (ix2 r 0)) (k0_pay14 (F := Ideal) (k0_pay8 v0) v33 v37 v43 v45 (ix2 r l))
        (k0_pay16 (F := Ideal) v51 (ix2 0 l))
      = gate (v0 (ix2 r 16)) (fun i => v33 (ix2 0 i)) (fun i => v37 (ix2 0 i)) (fun a b => v43 (ix2 a b))
          (fun i => v45 (ix2 0 i)) (fun i => v51 (ix2 0 i)) l := by
  pointwise [k0_pay14, k0_pay15, k0_pay16, k0_pay8, k0_pay4]
  rfl

theorem sem_apply (v30 v32 v57 v73 : FVec Ideal S1000x256 .f32) (v75 : IVec S1000x1 1)
    (v77 v102 v106 : FVec Ideal S1x256 .f32) (r : Fin 1000) (l : Fin 256) :
    k0_pay17 (F := Ideal) v30 v32 v57 v73 v75 v77 v102 v106 (ix2 r l)
      = twoR n256 eps (fun i => v30 (ix2 r i) + v32 (ix2 r i) + v57 (ix2 r i)
          + Scalar.select (v75 (ix2 r 0)) (v73 (ix2 r i)) (v77 (ix2 0 i)))
          (fun i => v102 (ix2 0 i)) (fun i => v106 (ix2 0 i)) l := by
  pointwise [k0_pay17]
  rfl

theorem conv1_apply (v10 : FVec Ideal S1000x14 .f32) (v110 : FVec Ideal S1x14 .f32) (v113 : FVec Ideal S14x640 .f32)
    (r : Fin 1000) (l : Fin 896) :
    k0_pay18 (F := Ideal) v10 v110 v113 (ix2 r l)
      = y1f (y1 (fun i => v10 (ix2 r i)) (fun i => v110 (ix2 0 i)) (fun a b => v113 (ix2 a b))) l := by
  pointwise [k0_pay18]
  rfl

/-- The second convolution and its normalization, from the three points that it reads. -/
theorem conv2_apply (v238 : FVec Ideal S1000x384 .f32) (v239 : FVec Ideal S384x256 .f32) (v242 v264 v270 : FVec Ideal S1x256 .f32)
    (r : Fin 1000) (l : Fin 256) :
    k0_pay32 (F := Ideal) v238 v239 v242 v264 v270 (ix2 r l)
      = one inv224 eps (x2 (fun q => v238 (ix2 r q)) (fun a b => v239 (ix2 a b)) (fun i => v242 (ix2 0 i)))
          (fun i => v264 (ix2 0 i)) (fun i => v270 (ix2 0 i)) l := by
  pointwise [k0_pay32]
  rfl

/-- The normalized second convolution of point `p`, as a block: the kernel writes it once for each point. -/
def geo (p : Fin 5) (h : S1000x896.Slices ![0, 128 * (p : ℕ)] S1000x384) (v119 : FVec Ideal S1000x896 .f32) (w : FVec Ideal S384x256 .f32)
    (b g bb : FVec Ideal S1x256 .f32) : FVec Ideal S1000x256 .f32 :=
  k0_pay32 (F := Ideal) (extractStridedSlice S1000x384 ![0, 128 * (p : ℕ)] v119 h) w b g bb

end Cert.Pay

end
-- ==== Proof.Geos.lean ====
/- The kernel's geometry payloads read at an element: the same function of each point's window. -/
module

public import proofs.«01_k».proof.Proof.Pay

@[expose] public section

set_option maxRecDepth 16384

noncomputable section

namespace Cert.Pay

open Idealize.ShloMosaic Cert.KernelIdeal Cert.KernelIdeal.Gen Cert.Row Cert.Norm

variable (v : FVec Ideal S1000x896 .f32) (w : FVec Ideal S384x256 .f32) (b g bb : FVec Ideal S1x256 .f32) (r : Fin 1000)

/-- The geometry features of point `p` of the way in row `r`, from the features of the first convolution. -/
def geoRow (p : Fin 5) (l : Fin 256) : EReal :=
  one inv224 eps (x2 (window (fun q => v (ix2 r q)) p) (fun a l => w (ix2 a l)) (fun i => b (ix2 0 i)))
    (fun i => g (ix2 0 i)) (fun i => bb (ix2 0 i)) l

/-- The first point. -/
theorem point0_apply (e : Fin 128) :
    k0_pay25 (F := Ideal) (k0_pay21 v w b) (k0_pay22 v w b) g bb (ix2 r e) = geoRow v w b g bb r 0 ⟨128 + e, by omega⟩ := by
  pointwise [k0_pay25, k0_pay21, k0_pay22, k0_pay23]
  rfl

/-- The second point. -/
theorem point1_apply (e : Fin 128) :
    k0_pay30 (F := Ideal) (k0_pay26 v w) (k0_pay27 b) g bb (ix2 r e) = geoRow v w b g bb r 1 ⟨128 + e, by omega⟩ := by
  pointwise [k0_pay30, k0_pay26, k0_pay27, k0_pay28]
  rfl

/-- The third point. -/
theorem point2_apply (e : Fin 128) :
    k0_pay34 (F := Ideal) (k0_pay31 v) w b g bb (ix2 r e) = geoRow v w b g bb r 2 ⟨128 + e, by omega⟩ := by
  pointwise [k0_pay34, k0_pay31, k0_pay32]
  rfl

/-- The fourth point. -/
theorem point3_apply (e : Fin 128) :
    k0_pay37 (F := Ideal) (k0_pay35 v w b g bb) (ix2 r e) = geoRow v w b g bb r 3 ⟨128 + e, by omega⟩ := by
  pointwise [k0_pay37, k0_pay35]
  rfl

/-- The fifth point. -/
theorem point4_apply (e : Fin 128) :
    k0_pay3 (F := Ideal) (k0_pay38 v w b g) (k0_pay39 bb) (ix2 r e) = geoRow v w b g bb r 4 ⟨128 + e, by omega⟩ := by
  pointwise [k0_pay3, k0_pay38, k0_pay39, k0_pay1]
  rfl

end Cert.Pay

end
-- ==== Proof.Points.lean ====
/- What one point of the kernel's grid writes, as functions of the rows of its blocks. -/
module

public import proofs.«01_k».proof.Proof.Blocks
public import proofs.«01_k».proof.Proof.Geos
public import Idealize.ShloMosaic.Lib.Pipeline.ValueKit

@[expose] public section

set_option maxRecDepth 16384

noncomputable section

namespace Cert.Points

open Idealize.ShloMosaic Idealize.ShloMosaic.TcCoe Cert.KernelIdeal Cert.KernelIdeal.Gen Cert.Row Cert.Norm Cert.Pay

variable (m : (ℓ : Loc nD τ sig) → Buf (Elt Ideal) ℓ) (c : Dev nD) (t : Fin cfg0.N)

/-- The features of the first convolution in a block, 128 lanes a point, one zero point on either side. -/
def feats : FVec Ideal S1000x896 .f32 :=
  k0_pay18 (F := Ideal) (k0_pay5 (iblk m c 0 t) (iblk m c 1 t) (iblk m c 2 t)) (iblk m c 3 t) (iblk m c 4 t)

/-- The semantic features in a block. -/
def sems : FVec Ideal S1000x256 .f32 :=
  k0_pay17 (F := Ideal) (k0_pay9 (iblk m c 0 t) (iblk m c 10 t)) (k0_pay10 (iblk m c 0 t) (iblk m c 11 t))
    (k0_pay13 (k0_pay7 (iblk m c 0 t)) (k0_pay11 (iblk m c 0 t) (iblk m c 12 t)) (k0_pay12 (iblk m c 13 t))
      (iblk m c 14 t) (iblk m c 15 t) (iblk m c 16 t))
    (k0_pay14 (k0_pay8 (iblk m c 0 t)) (iblk m c 17 t) (iblk m c 18 t) (iblk m c 19 t) (iblk m c 20 t))
    (k0_pay15 (k0_pay8 (iblk m c 0 t))) (k0_pay16 (iblk m c 21 t)) (iblk m c 22 t) (iblk m c 23 t)

/-- Lane `l` of the token of point `p` in row `r` of a block, from lane 128 on. -/
def tok (r : Fin 1000) (p : Fin 5) (l : Fin 512) : EReal :=
  if h : (l : ℕ) < 256 then geoRow (feats m c t) (iblk m c 5 t) (iblk m c 6 t) (iblk m c 7 t) (iblk m c 8 t) r p ⟨l, h⟩
  else sems m c t (ix2 r ⟨l - 256, by omega⟩)

/-- A lane of the geometry part. -/
theorem tok_geo {r : Fin 1000} {p q : Fin 5} {l : Fin 512} {e : Fin 128} (hp : (p : ℕ) = q) (hl : (l : ℕ) = 128 + e) :
    tok m c t r p l
      = geoRow (feats m c t) (iblk m c 5 t) (iblk m c 6 t) (iblk m c 7 t) (iblk m c 8 t) r q ⟨128 + e, by omega⟩ := by
  unfold tok
  rw [dif_pos (by omega), Fin.ext hp]
  simp only [hl]

/-- A lane of the semantic part. -/
theorem tok_sem {r : Fin 1000} {p : Fin 5} {l : Fin 512} {e : Fin 256} (hl : (l : ℕ) = 256 + e) :
    tok m c t r p l = sems m c t (ix2 r e) := by
  unfold tok
  rw [dif_neg (by omega)]
  exact congrArg (fun e => sems m c t (ix2 r e)) (Fin.ext (by simp; omega))

set_option maxHeartbeats 1000000 in
/-- The block of tokens that a point writes. -/
theorem tokens_block (y0 : Fin 1000) (y1 : Fin 2560) (hl : 128 ≤ (y1 : ℕ) % 512) :
    ((outsAt0 m c t).1 : FVec Ideal S1000x2560 .f32) (ix2 y0 y1) = tok m c t y0 ⟨(y1 : ℕ) / 512, by omega⟩ ⟨(y1 : ℕ) % 512, by omega⟩ := by
  dsimp only [outsAt0]
  frame_out
  canon_tiles x h using View.cover_of_tiledBy _ ![1000, 128] (by sl_kernel_rfl) _
  all_goals
    idx_vars x
    replace h0 : (y0 : ℕ) = x0 := h0
    obtain rfl : y0 = x0 := Fin.ext h0
    try (exfalso; omega)
  all_goals
    first
      | rw [point0_apply]
      | rw [point1_apply]
      | rw [point2_apply]
      | rw [point3_apply]
      | rw [point4_apply]
      | skip
  all_goals first
    | exact (tok_sem m c t (e := x1) (by simp; omega)).symm
    | exact (tok_geo m c t (e := x1) (by simp; omega) (by simp; omega)).symm

/-- The block of coordinates that a point writes. -/
theorem coords_block (r : Fin 1000) (j : Fin 10) :
    ((outsAt0 m c t).2 : FVec Ideal S1000x10 .f32) (ix2 r j)
      = k0_pay6 (F := Ideal) (iblk m c 0 t) (iblk m c 1 t) (iblk m c 2 t) (ix2 r j) := by
  dsimp only [outsAt0]
  frame_out

end Cert.Points

end
-- ==== Proof.Reads.lean ====
/- Which part of its array each window's block is. -/
module

public import proofs.«01_k».proof.Proof.Blocks
public import proofs.«01_k».proof.Proof.Geos
public import Idealize.ShloMosaic.Lib.Pipeline.ValueKit

@[expose] public section

set_option maxRecDepth 16384

noncomputable section

namespace Cert.Points

open Idealize.ShloMosaic Idealize.ShloMosaic.TcCoe Cert.KernelIdeal Cert.KernelIdeal.Gen Cert.Row Cert.Norm Cert.Pay

variable (m : (ℓ : Loc nD τ sig) → Buf (Elt Ideal) ℓ) (c : Dev nD) (t : Fin cfg0.N)

/-! The windows' block indices: the ways and the two results go with the point, all else is whole. -/

theorem index0 : ∀ t : Fin cfg0.N, win0_0.index t 0 = (t : ℕ) ∧ win0_0.index t 1 = 0 :=
  (by decide +kernel : ∀ t : Fin grid0.N, _)

theorem index1 : ∀ t : Fin cfg0.N, win0_1.index t 0 = 0 ∧ win0_1.index t 1 = 0 :=
  (by decide +kernel : ∀ t : Fin grid0.N, _)

theorem index2 : ∀ t : Fin cfg0.N, win0_2.index t 0 = 0 ∧ win0_2.index t 1 = 0 :=
  (by decide +kernel : ∀ t : Fin grid0.N, _)

theorem index3 : ∀ t : Fin cfg0.N, win0_3.index t 0 = 0 ∧ win0_3.index t 1 = 0 :=
  (by decide +kernel : ∀ t : Fin grid0.N, _)

theorem index4 : ∀ t : Fin cfg0.N, win0_4.index t 0 = 0 ∧ win0_4.index t 1 = 0 :=
  (by decide +kernel : ∀ t : Fin grid0.N, _)

theorem index5 : ∀ t : Fin cfg0.N, win0_5.index t 0 = 0 ∧ win0_5.index t 1 = 0 :=
  (by decide +kernel : ∀ t : Fin grid0.N, _)

theorem index6 : ∀ t : Fin cfg0.N, win0_6.index t 0 = 0 ∧ win0_6.index t 1 = 0 :=
  (by decide +kernel : ∀ t : Fin grid0.N, _)

theorem index7 : ∀ t : Fin cfg0.N, win0_7.index t 0 = 0 ∧ win0_7.index t 1 = 0 :=
  (by decide +kernel : ∀ t : Fin grid0.N, _)

theorem index8 : ∀ t : Fin cfg0.N, win0_8.index t 0 = 0 ∧ win0_8.index t 1 = 0 :=
  (by decide +kernel : ∀ t : Fin grid0.N, _)

theorem index10 : ∀ t : Fin cfg0.N, win0_10.index t 0 = 0 ∧ win0_10.index t 1 = 0 :=
  (by decide +kernel : ∀ t : Fin grid0.N, _)

theorem index11 : ∀ t : Fin cfg0.N, win0_11.index t 0 = 0 ∧ win0_11.index t 1 = 0 :=
  (by decide +kernel : ∀ t : Fin grid0.N, _)

theorem index12 : ∀ t : Fin cfg0.N, win0_12.index t 0 = 0 ∧ win0_12.index t 1 = 0 :=
  (by decide +kernel : ∀ t : Fin grid0.N, _)

theorem index13 : ∀ t : Fin cfg0.N, win0_13.index t 0 = 0 ∧ win0_13.index t 1 = 0 :=
  (by decide +kernel : ∀ t : Fin grid0.N, _)

theorem index14 : ∀ t : Fin cfg0.N, win0_14.index t 0 = 0 ∧ win0_14.index t 1 = 0 :=
  (by decide +kernel : ∀ t : Fin grid0.N, _)

theorem index15 : ∀ t : Fin cfg0.N, win0_15.index t 0 = 0 ∧ win0_15.index t 1 = 0 :=
  (by decide +kernel : ∀ t : Fin grid0.N, _)

theorem index16 : ∀ t : Fin cfg0.N, win0_16.index t 0 = 0 ∧ win0_16.index t 1 = 0 :=
  (by decide +kernel : ∀ t : Fin grid0.N, _)

theorem index17 : ∀ t : Fin cfg0.N, win0_17.index t 0 = 0 ∧ win0_17.index t 1 = 0 :=
  (by decide +kernel : ∀ t : Fin grid0.N, _)

theorem index18 : ∀ t : Fin cfg0.N, win0_18.index t 0 = 0 ∧ win0_18.index t 1 = 0 :=
  (by decide +kernel : ∀ t : Fin grid0.N, _)

theorem index19 : ∀ t : Fin cfg0.N, win0_19.index t 0 = 0 ∧ win0_19.index t 1 = 0 :=
  (by decide +kernel : ∀ t : Fin grid0.N, _)

theorem index20 : ∀ t : Fin cfg0.N, win0_20.index t 0 = 0 ∧ win0_20.index t 1 = 0 :=
  (by decide +kernel : ∀ t : Fin grid0.N, _)

theorem index21 : ∀ t : Fin cfg0.N, win0_21.index t 0 = 0 ∧ win0_21.index t 1 = 0 :=
  (by decide +kernel : ∀ t : Fin grid0.N, _)

theorem index22 : ∀ t : Fin cfg0.N, win0_22.index t 0 = 0 ∧ win0_22.index t 1 = 0 :=
  (by decide +kernel : ∀ t : Fin grid0.N, _)

theorem index23 : ∀ t : Fin cfg0.N, win0_23.index t 0 = 0 ∧ win0_23.index t 1 = 0 :=
  (by decide +kernel : ∀ t : Fin grid0.N, _)

theorem index24 : ∀ t : Fin cfg0.N, win0_24.index t 0 = (t : ℕ) ∧ win0_24.index t 1 = 0 :=
  (by decide +kernel : ∀ t : Fin grid0.N, _)

theorem index25 : ∀ t : Fin cfg0.N, win0_25.index t 0 = (t : ℕ) ∧ win0_25.index t 1 = 0 :=
  (by decide +kernel : ∀ t : Fin grid0.N, _)

theorem point_lt : (t : ℕ) < 20 := lt_of_lt_of_eq t.isLt N_0

/-- The way that point `t` has in row `r` of its block. -/
def way (r : Fin 1000) : Fin 20000 := ⟨(t : ℕ) * 1000 + r, by have := point_lt t; omega⟩

/-- The ways' block. -/
theorem ways_block (r : Fin 1000) (j : Fin 18) :
    (iblk m c 0 t : FVec Ideal S1000x18 .f32) (ix2 r j) = (V m c main_v9 : FVec Ideal S20000x18 .f32) (ix2 (way t r) j) := by
  obtain ⟨h1, h2⟩ := index0 t
  blk_ext [iblk, way, h1, h2]

/-! All else that the kernel reads is whole in every block. -/

theorem block1 : (iblk m c 1 t : FVec Ideal S1x14 .f32) = (V m c main_v11 : FVec Ideal S1x14 .f32) := by
  obtain ⟨h1, h2⟩ := index1 t
  funext j
  blk_ext [iblk, h1, h2]

theorem block2 : (iblk m c 2 t : FVec Ideal S1x14 .f32) = (V m c main_v12 : FVec Ideal S1x14 .f32) := by
  obtain ⟨h1, h2⟩ := index2 t
  funext j
  blk_ext [iblk, h1, h2]

theorem block3 : (iblk m c 3 t : FVec Ideal S1x14 .f32) = (V m c main_cst_2 : FVec Ideal S1x14 .f32) := by
  obtain ⟨h1, h2⟩ := index3 t
  funext j
  blk_ext [iblk, h1, h2]

theorem block4 : (iblk m c 4 t : FVec Ideal S14x640 .f32) = (V m c main_v30 : FVec Ideal S14x640 .f32) := by
  obtain ⟨h1, h2⟩ := index4 t
  funext j
  blk_ext [iblk, h1, h2]

theorem block5 : (iblk m c 5 t : FVec Ideal S384x256 .f32) = (V m c main_v41 : FVec Ideal S384x256 .f32) := by
  obtain ⟨h1, h2⟩ := index5 t
  funext j
  blk_ext [iblk, h1, h2]

theorem block6 : (iblk m c 6 t : FVec Ideal S1x256 .f32) = (V m c main_v43 : FVec Ideal S1x256 .f32) := by
  obtain ⟨h1, h2⟩ := index6 t
  funext j
  blk_ext [iblk, h1, h2]

theorem block7 : (iblk m c 7 t : FVec Ideal S1x256 .f32) = (V m c main_v45 : FVec Ideal S1x256 .f32) := by
  obtain ⟨h1, h2⟩ := index7 t
  funext j
  blk_ext [iblk, h1, h2]

theorem block8 : (iblk m c 8 t : FVec Ideal S1x256 .f32) = (V m c main_v47 : FVec Ideal S1x256 .f32) := by
  obtain ⟨h1, h2⟩ := index8 t
  funext j
  blk_ext [iblk, h1, h2]

theorem block10 : (iblk m c 10 t : FVec Ideal S12x256 .f32) = (V m c main_arg11 : FVec Ideal S12x256 .f32) := by
  obtain ⟨h1, h2⟩ := index10 t
  funext j
  blk_ext [iblk, h1, h2]

theorem block11 : (iblk m c 11 t : FVec Ideal S4x256 .f32) = (V m c main_arg12 : FVec Ideal S4x256 .f32) := by
  obtain ⟨h1, h2⟩ := index11 t
  funext j
  blk_ext [iblk, h1, h2]

theorem block12 : (iblk m c 12 t : FVec Ideal S1x128 .f32) = (V m c main_arg13 : FVec Ideal S1x128 .f32) := by
  obtain ⟨h1, h2⟩ := index12 t
  funext j
  blk_ext [iblk, h1, h2]

theorem block13 : (iblk m c 13 t : FVec Ideal S1x128 .f32) = (V m c main_v48 : FVec Ideal S1x128 .f32) := by
  obtain ⟨h1, h2⟩ := index13 t
  funext j
  blk_ext [iblk, h1, h2]

theorem block14 : (iblk m c 14 t : FVec Ideal S128x256 .f32) = (V m c main_arg15 : FVec Ideal S128x256 .f32) := by
  obtain ⟨h1, h2⟩ := index14 t
  funext j
  blk_ext [iblk, h1, h2]

theorem block15 : (iblk m c 15 t : FVec Ideal S1x256 .f32) = (V m c main_v49 : FVec Ideal S1x256 .f32) := by
  obtain ⟨h1, h2⟩ := index15 t
  funext j
  blk_ext [iblk, h1, h2]

theorem block16 : (iblk m c 16 t : FVec Ideal S1x256 .f32) = (V m c main_v50 : FVec Ideal S1x256 .f32) := by
  obtain ⟨h1, h2⟩ := index16 t
  funext j
  blk_ext [iblk, h1, h2]

theorem block17 : (iblk m c 17 t : FVec Ideal S1x128 .f32) = (V m c main_arg18 : FVec Ideal S1x128 .f32) := by
  obtain ⟨h1, h2⟩ := index17 t
  funext j
  blk_ext [iblk, h1, h2]

theorem block18 : (iblk m c 18 t : FVec Ideal S1x128 .f32) = (V m c main_v51 : FVec Ideal S1x128 .f32) := by
  obtain ⟨h1, h2⟩ := index18 t
  funext j
  blk_ext [iblk, h1, h2]

theorem block19 : (iblk m c 19 t : FVec Ideal S128x256 .f32) = (V m c main_arg20 : FVec Ideal S128x256 .f32) := by
  obtain ⟨h1, h2⟩ := index19 t
  funext j
  blk_ext [iblk, h1, h2]

theorem block20 : (iblk m c 20 t : FVec Ideal S1x256 .f32) = (V m c main_v52 : FVec Ideal S1x256 .f32) := by
  obtain ⟨h1, h2⟩ := index20 t
  funext j
  blk_ext [iblk, h1, h2]

theorem block21 : (iblk m c 21 t : FVec Ideal S1x256 .f32) = (V m c main_v53 : FVec Ideal S1x256 .f32) := by
  obtain ⟨h1, h2⟩ := index21 t
  funext j
  blk_ext [iblk, h1, h2]

theorem block22 : (iblk m c 22 t : FVec Ideal S1x256 .f32) = (V m c main_v54 : FVec Ideal S1x256 .f32) := by
  obtain ⟨h1, h2⟩ := index22 t
  funext j
  blk_ext [iblk, h1, h2]

theorem block23 : (iblk m c 23 t : FVec Ideal S1x256 .f32) = (V m c main_v55 : FVec Ideal S1x256 .f32) := by
  obtain ⟨h1, h2⟩ := index23 t
  funext j
  blk_ext [iblk, h1, h2]

end Cert.Points

end
-- ==== Proof.Spec.lean ====
/- The token encoder as mathematics over the extended reals: what the reference returns for one way. -/
module

public import proofs.«01_k».proof.Proof.Row

@[expose] public section

noncomputable section

namespace Cert.Spec

open Idealize.ShloMosaic Cert.Norm Cert.Row

/-- The arguments of the encoder, by their coordinates. -/
structure Args where
  /-- The points of each way. -/
  geoms : Fin 20000 → Fin 5 → Fin 2 → EReal
  /-- The class of each way. -/
  highway : Fin 20000 → BitVec 32
  /-- The lane count of each way, minus one where it is missing. -/
  lanes : Fin 20000 → BitVec 32
  /-- The width of each way, minus one where it is missing. -/
  width : Fin 20000 → EReal
  /-- The city of each way. -/
  city : Fin 20000 → BitVec 32
  /-- The first convolution. -/
  w1 : Fin 112 → Fin 2 → Fin 3 → EReal
  /-- Its bias. -/
  b1 : Fin 112 → EReal
  /-- The second convolution. -/
  w2 : Fin 224 → Fin 112 → Fin 3 → EReal
  /-- Its bias. -/
  b2 : Fin 224 → EReal
  /-- The scale of the geometry's normalization. -/
  g : Fin 224 → EReal
  /-- The shift of the geometry's normalization. -/
  b : Fin 224 → EReal
  /-- The embeddings of the classes. -/
  hwTab : Fin 12 → Fin 256 → EReal
  /-- The embeddings of the cities. -/
  cityTab : Fin 4 → Fin 256 → EReal
  /-- The perceptron of the lane count, and the row for a missing one. -/
  lw1 : Fin 128 → EReal
  lb1 : Fin 128 → EReal
  lw2 : Fin 128 → Fin 256 → EReal
  lb2 : Fin 256 → EReal
  lmask : Fin 256 → EReal
  /-- The perceptron of the width, and the row for a missing one. -/
  ww1 : Fin 128 → EReal
  wb1 : Fin 128 → EReal
  ww2 : Fin 128 → Fin 256 → EReal
  wb2 : Fin 256 → EReal
  wmask : Fin 256 → EReal
  /-- The scale of the semantic normalization. -/
  sg : Fin 256 → EReal
  /-- The shift of the semantic normalization. -/
  sb : Fin 256 → EReal

/-- What is added to a coordinate: half its range. -/
def half (j : Fin 2) : EReal := if j = 0 then ((30 : ℝ) : EReal) else ((15 : ℝ) : EReal)

/-- The range of a coordinate. -/
def span (j : Fin 2) : EReal := if j = 0 then ((60 : ℝ) : EReal) else ((30 : ℝ) : EReal)

/-- A sequence of five points with one zero point on either side. -/
def padded {c : ℕ} (X : Fin 5 → Fin c → EReal) (q : ℕ) (i : Fin c) : EReal :=
  if h : 1 ≤ q ∧ q - 1 < 5 then X ⟨q - 1, h.2⟩ i else 0

/-- A convolution of three taps over five points, rectified. -/
def conv {c d : ℕ} (X : Fin 5 → Fin c → EReal) (w : Fin d → Fin c → Fin 3 → EReal) (b : Fin d → EReal) (p : Fin 5) (o : Fin d) :
    EReal :=
  max (∑ i, padded X p i * w o i 0 + ∑ i, padded X (1 + p) i * w o i 1 + ∑ i, padded X (2 + p) i * w o i 2 + b o) 0

namespace Args

variable (A : Args)

/-- The normalized coordinates of a way. -/
def coord (r : Fin 20000) (p : Fin 5) (j : Fin 2) : EReal := Ideal.div (A.geoms r p j + half j) (span j)

/-- The geometry features of a way's points, before their normalization. -/
def feat (r : Fin 20000) : Fin 5 → Fin 224 → EReal := conv (conv (A.coord r) A.w1 A.b1) A.w2 A.b2

/-- The geometry features. -/
def geo (r : Fin 20000) (p : Fin 5) (o : Fin 224) : EReal := two ((224 : ℝ) : EReal) eps (A.feat r p) A.g A.b o

/-- The lane count as a number. -/
def laneCount (r : Fin 20000) : EReal := FloatOps.sitofp (F := Ideal) .f32 (A.lanes r)

/-- The semantic features of a way whose class is `k` and whose city is `t`, before their normalization. -/
def sum (r : Fin 20000) (k : Fin 12) (t : Fin 4) (l : Fin 256) : EReal :=
  A.hwTab k l + A.cityTab t l + gate (A.laneCount r) A.lw1 A.lb1 A.lw2 A.lb2 A.lmask l
    + gate (A.width r) A.ww1 A.wb1 A.ww2 A.wb2 A.wmask l

/-- The semantic features. -/
def sem (r : Fin 20000) (k : Fin 12) (t : Fin 4) (l : Fin 256) : EReal := two ((256 : ℝ) : EReal) eps (A.sum r k t) A.sg A.sb l

/-- The token of one point, from lane 128 on. -/
def token (r : Fin 20000) (k : Fin 12) (t : Fin 4) (p : Fin 5) (l : Fin 512) : EReal :=
  if h : (l : ℕ) < 256 then A.geo r p ⟨l - 32, by omega⟩ else A.sem r k t ⟨l - 256, by omega⟩

end Args

end Cert.Spec

end
-- ==== Proof.Layout.lean ====
/- How the host lays out the parameters of the convolutions for the kernel. -/
module

public import proofs.«01_k».proof.Proof.Spec

@[expose] public section

noncomputable section

namespace Cert.Spec

/-- A row of 224 numbers behind 32 zeros. -/
def behind (v : Fin 224 → EReal) (l : Fin 256) : EReal := if h : 32 ≤ (l : ℕ) then v ⟨l - 32, by omega⟩ else 0

/-- The rows that the first convolution multiplies for point `p` and feature `o`: the bias first, then the taps. -/
def tapRow (w : Fin 112 → Fin 2 → Fin 3 → EReal) (b : Fin 112 → EReal) (p : Fin 5) (o : Fin 112) (q : Fin 14) : EReal :=
  if (q : ℕ) = 0 then b o
  else if h : 2 * (p : ℕ) ≤ q ∧ (q : ℕ) < 2 * p + 6 then w o ⟨(q - 2 * p) % 2, by omega⟩ ⟨(q - 2 * p) / 2, by omega⟩ else 0

/-- The rows that the second convolution multiplies: three taps of 128 rows, the last 16 of each zero. -/
def tapRow2 (w : Fin 224 → Fin 112 → Fin 3 → EReal) (q : Fin 384) (l : Fin 256) : EReal :=
  if h : (q : ℕ) % 128 < 112 then behind (fun o => w o ⟨q % 128, h⟩ ⟨q / 128, by omega⟩) l else 0

end Cert.Spec

end
-- ==== Proof.Put.lean ====
/- A block put into a table at a fixed place, read at an element. -/
module

public import Idealize.ShloMosaic.Lib.Pointwise
public import Idealize.ShloMosaic.Lib.WordCmp

@[expose] public section

namespace Cert.Put

open Idealize.ShloMosaic

/-- A block of `a` rows and `b` columns put at row `i` and column `j`: inside it the block, outside it the table. -/
theorem put_apply {α : Type} {n k a b : ℕ} (x : (⟨2, ![n, k]⟩ : Shape).Idx → α) (u : (⟨2, ![a, b]⟩ : Shape).Idx → α)
    (start : Fin 2 → ℤ) (h : (⟨2, ![n, k]⟩ : Shape).Slices (fun _ => 0) (⟨2, ![a, b]⟩ : Shape)) (i j : ℕ) (e0 : start 0 = i)
    (e1 : start 1 = j) (hi : i + a ≤ n) (hj : j + b ≤ k) (q : Fin n) (l : Fin k) :
    Host.dynamicUpdateSlice x u start h (ix2 q l)
      = if hin : (i ≤ (q : ℕ) ∧ (q : ℕ) < i + a) ∧ (j ≤ (l : ℕ) ∧ (l : ℕ) < j + b) then
          u (ix2 ⟨q - i, by omega⟩ ⟨l - j, by omega⟩) else x (ix2 q l) := by
  have hk : (⟨2, ![n, k]⟩ : Shape).Slices ![i, j] (⟨2, ![a, b]⟩ : Shape) := by
    refine ⟨rfl, fun d => ?_⟩
    fin_cases d
    · exact hi
    · exact hj
  rw [WordCmp.dynamicUpdateSlice_eq_update x u start h ![i, j] hk (by
    intro d
    fin_cases d
    · exact e0
    · exact e1)]
  rw [updateSlice_apply]
  by_cases hin : (i ≤ (q : ℕ) ∧ (q : ℕ) < i + a) ∧ (j ≤ (l : ℕ) ∧ (l : ℕ) < j + b)
  · rw [dif_pos hin, dif_pos (by
      intro d
      fin_cases d
      · exact hin.1
      · exact hin.2)]
    congr 1
    funext d
    fin_cases d <;> rfl
  · rw [dif_neg hin, dif_neg (fun hall => hin ⟨hall 0, hall 1⟩)]

end Cert.Put
-- ==== Proof.HostTables.lean ====
/- What the host hands to the kernel: its arguments, and the two tables of the convolutions. -/
module

public import Idealize.ShloMosaic.Lib.Pointwise
public import Idealize.ShloMosaic.Lib.StableHlo.ReadAt
public import Idealize.ShloMosaic.Lib.Tactic.CleanTypes
public import proofs.«01_k».proof.Proof.Layout
public import proofs.«01_k».proof.Proof.Put
public import proofs.«01_k».proof.Proof.Gen.KernelIdeal
public import proofs.«01_k».proof.Proof.Gen.KernelIdeal.Frame.Runs

@[expose] public section

set_option maxRecDepth 16384

noncomputable section

namespace Cert.Host

open Idealize.ShloMosaic Idealize.ShloMosaic.TcCoe Cert.KernelIdeal Cert.KernelIdeal.Gen Idealize.SL.Sem Idealize.ShloMosaic.StableHlo
open Cert.Spec

variable (m : (ℓ : Loc nD τ sig) → Buf (Elt Ideal) ℓ) (c : Dev nD)

open Cert.Put

/-- The arguments as the kernel's program holds them. -/
def args : Args where
  geoms r p j := m (c, Proc.tc.devRef main_arg0) (ix3 r p j)
  highway r := m (c, Proc.tc.devRef main_arg1) (ix1 r)
  lanes r := m (c, Proc.tc.devRef main_arg2) (ix1 r)
  width r := m (c, Proc.tc.devRef main_arg3) (ix1 r)
  city r := m (c, Proc.tc.devRef main_arg4) (ix1 r)
  w1 o i d := m (c, Proc.tc.devRef main_arg5) (ix3 o i d)
  b1 o := m (c, Proc.tc.devRef main_arg6) (ix1 o)
  w2 o i d := m (c, Proc.tc.devRef main_arg7) (ix3 o i d)
  b2 o := m (c, Proc.tc.devRef main_arg8) (ix1 o)
  g o := m (c, Proc.tc.devRef main_arg9) (ix1 o)
  b o := m (c, Proc.tc.devRef main_arg10) (ix1 o)
  hwTab k l := m (c, Proc.tc.devRef main_arg11) (ix2 k l)
  cityTab k l := m (c, Proc.tc.devRef main_arg12) (ix2 k l)
  lw1 l := m (c, Proc.tc.devRef main_arg13) (ix2 0 l)
  lb1 l := m (c, Proc.tc.devRef main_arg14) (ix1 l)
  lw2 k l := m (c, Proc.tc.devRef main_arg15) (ix2 k l)
  lb2 l := m (c, Proc.tc.devRef main_arg16) (ix1 l)
  lmask l := m (c, Proc.tc.devRef main_arg17) (ix1 l)
  ww1 l := m (c, Proc.tc.devRef main_arg18) (ix2 0 l)
  wb1 l := m (c, Proc.tc.devRef main_arg19) (ix1 l)
  ww2 k l := m (c, Proc.tc.devRef main_arg20) (ix2 k l)
  wb2 l := m (c, Proc.tc.devRef main_arg21) (ix1 l)
  wmask l := m (c, Proc.tc.devRef main_arg22) (ix1 l)
  sg l := m (c, Proc.tc.devRef main_arg23) (ix1 l)
  sb l := m (c, Proc.tc.devRef main_arg24) (ix1 l)

theorem zero_float : (FloatOps.sitofp .f32 (0#32) : Ideal .f32) = (0 : EReal) := by
  simp [FloatOps.sitofp]

theorem ix3_congr {a b d : ℕ} {i i' : Fin a} {j j' : Fin b} {k k' : Fin d} (h1 : (i : ℕ) = i') (h2 : (j : ℕ) = j')
    (h3 : (k : ℕ) = k') : ix3 i j k = ix3 i' j' k' := by
  rw [Fin.ext h1, Fin.ext h2, Fin.ext h3]

set_option maxHeartbeats 8000000 in
/-- The table of the first convolution, at a lane that holds a feature. -/
theorem taps_apply (p : Fin 5) (o : Fin 112) (q : Fin 14) :
    (V m c main_v30 : FVec Ideal S14x640 .f32) (ix2 q ⟨128 * p + o, by omega⟩)
      = tapRow (args m c).w1 (args m c).b1 p o q := by
  unfold V
  after_reads_simp
  rw [put_apply _ _ _ _ 0 512 ?_ ?_ (by decide) (by decide)
    , put_apply _ _ _ _ 8 512 ?_ ?_ (by decide) (by decide)
    , put_apply _ _ _ _ 0 384 ?_ ?_ (by decide) (by decide)
    , put_apply _ _ _ _ 6 384 ?_ ?_ (by decide) (by decide)
    , put_apply _ _ _ _ 0 256 ?_ ?_ (by decide) (by decide)
    , put_apply _ _ _ _ 4 256 ?_ ?_ (by decide) (by decide)
    , put_apply _ _ _ _ 0 128 ?_ ?_ (by decide) (by decide)
    , put_apply _ _ _ _ 2 128 ?_ ?_ (by decide) (by decide)
    , put_apply _ _ _ _ 0 0 ?_ ?_ (by decide) (by decide)
    , put_apply _ _ _ _ 0 0 ?_ ?_ (by decide) (by decide)]
  · clean_types
    pointwise
    obtain ⟨p, hp⟩ := p
    unfold tapRow
    dsimp only
    by_cases h0 : (q : ℕ) = 0
    · rw [if_pos h0]
      interval_cases p
      all_goals
        repeat rw [dif_neg (by omega)]
        rw [dif_pos (by omega)]
        refine congrArg (fun x => m (c, Proc.tc.devRef main_arg6) (ix1 x)) (Fin.ext ?_)
        simp
    · rw [if_neg h0]
      by_cases h1 : 2 * p ≤ (q : ℕ) ∧ (q : ℕ) < 2 * p + 6
      · rw [dif_pos h1]
        interval_cases p
        all_goals
          repeat rw [dif_neg (by omega)]
          rw [dif_pos (by omega)]
          refine congrArg (fun x => m (c, Proc.tc.devRef main_arg5) x) (ix3_congr ?_ ?_ ?_) <;> simp
      · rw [dif_neg h1]
        interval_cases p
        all_goals
          repeat rw [dif_neg (by omega)]
  all_goals
    simp only [Matrix.cons_val_zero, Matrix.cons_val_one]
    after_reads_simp
    rfl

set_option maxHeartbeats 4000000 in
/-- The table of the second convolution: three taps of 128 rows, 112 of them holding one, behind 32 zero columns. -/
theorem taps2_apply (q : Fin 384) (l : Fin 256) :
    (V m c main_v41 : FVec Ideal S384x256 .f32) (ix2 q l)
      = tapRow2 (args m c).w2 q l := by
  unfold V
  after_reads_simp
  rw [put_apply _ _ _ _ 256 32 ?_ ?_ (by decide) (by decide)
    , put_apply _ _ _ _ 128 32 ?_ ?_ (by decide) (by decide)
    , put_apply _ _ _ _ 0 32 ?_ ?_ (by decide) (by decide)]
  · clean_types
    pointwise
    unfold tapRow2 behind
    split_ifs <;> first
      | (exfalso; omega)
      | (refine congrArg (fun x => m (c, Proc.tc.devRef main_arg7) x) (ix3_congr ?_ ?_ ?_) <;> simp <;> omega)
      | rfl
  all_goals
    simp only [Matrix.cons_val_zero, Matrix.cons_val_one]
    after_reads_simp
    rfl

end Cert.Host

end
-- ==== Proof.HostRows.lean ====
/- What the host hands to the kernel: the rows of the ways, and the parameters laid out as rows. -/
module

public import Idealize.ShloMosaic.Lib.Pointwise
public import Idealize.ShloMosaic.Lib.StableHlo.ReadAt
public import Idealize.ShloMosaic.Lib.Tactic.CleanTypes
public import proofs.«01_k».proof.Proof.HostTables
public import proofs.«01_k».proof.Proof.Gen.KernelIdeal
public import proofs.«01_k».proof.Proof.Gen.KernelIdeal.Frame.Runs

@[expose] public section

set_option maxRecDepth 16384

noncomputable section

namespace Cert.Host

open Idealize.ShloMosaic Idealize.ShloMosaic.TcCoe Cert.KernelIdeal Cert.KernelIdeal.Gen Idealize.SL.Sem Idealize.ShloMosaic.StableHlo
open Cert.Spec

variable (m : (ℓ : Loc nD τ sig) → Buf (Elt Ideal) ℓ) (c : Dev nD)

theorem one_bits : (Ideal.ofBits .f32 0x3F800000#32 : EReal) = ((1 : ℝ) : EReal) := by
  simp [Ideal.ofBits, Ideal.ieee, -EReal.coe_mul]; norm_num
theorem half_bits : (Ideal.ofBits .f32 0x3F000000#32 : EReal) = ((1 / 2 : ℝ) : EReal) := by
  simp [Ideal.ofBits, Ideal.ieee, -EReal.coe_mul]; norm_num
theorem sixty_bits : (Ideal.ofBits .f32 0x42700000#32 : EReal) = ((60 : ℝ) : EReal) := by
  simp [Ideal.ofBits, Ideal.ieee, -EReal.coe_mul]; norm_num
theorem thirty_bits : (Ideal.ofBits .f32 0x41F00000#32 : EReal) = ((30 : ℝ) : EReal) := by
  simp [Ideal.ofBits, Ideal.ieee, -EReal.coe_mul]; norm_num
theorem zero_bits : (Ideal.ofBits .f32 0#32 : EReal) = 0 := by
  simp [Ideal.ofBits, Ideal.ieee, -EReal.coe_mul]

theorem tops : ∀ j : Fin 14, lit0 (S14.rowMajor (ix1 j)) = if 2 ≤ (j : ℕ) ∧ (j : ℕ) < 12 then 0x3F800000#32 else 0#32 := by
  decide
theorem bottoms : ∀ j : Fin 14, lit1 (S14.rowMajor (ix1 j))
    = if 2 ≤ (j : ℕ) ∧ (j : ℕ) < 12 then (if (j : ℕ) % 2 = 0 then 0x42700000#32 else 0x41F00000#32) else 0x3F800000#32 := by
  decide
theorem halves : ∀ j : Fin 14, lit2 (S14.rowMajor (ix1 j)) = if 2 ≤ (j : ℕ) ∧ (j : ℕ) < 12 then 0x3F000000#32 else 0#32 := by
  decide
theorem firsts : ∀ j : Fin 14, lit3 (S1x14.rowMajor (ix2 0 j)) = if (j : ℕ) = 0 then 0x3F800000#32 else 0#32 := by
  decide

/-- The factors of the coordinates: one over the range, zero where there is none. -/
theorem scale_apply (j : Fin 14) : (V m c main_v11 : FVec Ideal S1x14 .f32) (ix2 0 j)
    = if 2 ≤ (j : ℕ) ∧ (j : ℕ) < 12 then (if (j : ℕ) % 2 = 0 then ((1 / 60 : ℝ) : EReal) else ((1 / 30 : ℝ) : EReal)) else 0 := by
  unfold V
  after_reads_at
  rw [tops, bottoms]
  split_ifs
  · rw [one_bits, sixty_bits, Ideal.div_coe (by norm_num), ← EReal.coe_mul]; norm_num
  · rw [one_bits, thirty_bits, Ideal.div_coe (by norm_num), ← EReal.coe_mul]; norm_num
  · rw [zero_bits, one_bits, Ideal.div_coe (by norm_num), zero_mul]

/-- The shifts of the coordinates: one half, zero where there is none. -/
theorem shift_apply (j : Fin 14) : (V m c main_v12 : FVec Ideal S1x14 .f32) (ix2 0 j)
    = if 2 ≤ (j : ℕ) ∧ (j : ℕ) < 12 then ((1 / 2 : ℝ) : EReal) else 0 := by
  unfold V
  after_reads_at
  rw [halves]
  split_ifs
  · exact half_bits
  · exact zero_bits

/-- The row that puts one on the bias. -/
theorem first_apply (j : Fin 14) : (V m c main_cst_2 : FVec Ideal S1x14 .f32) (ix2 0 j)
    = if (j : ℕ) = 0 then ((1 : ℝ) : EReal) else 0 := by
  unfold V
  after_reads_at
  rw [firsts]
  split_ifs
  · exact one_bits
  · exact zero_bits

/-- The coordinates of a way in its row, two zeros on either side. -/
theorem way_apply (r : Fin 20000) (j : Fin 14) : (V m c main_v9 : FVec Ideal S20000x18 .f32) (ix2 r ⟨j, by omega⟩)
    = if h : 2 ≤ (j : ℕ) ∧ (j : ℕ) < 12 then (args m c).geoms r ⟨(j - 2) / 2, by omega⟩ ⟨(j - 2) % 2, by omega⟩ else 0 := by
  unfold V
  after_reads_at
  after_reads_at
  split_ifs <;> first
    | (exfalso; omega)
    | rfl
    | exact zero_float

/-- The other four numbers of a way in its row. -/
theorem way_rest (r : Fin 20000) :
    (V m c main_v9 : FVec Ideal S20000x18 .f32) (ix2 r 14) = (FloatOps.sitofp (F := Ideal) .f32 ((args m c).highway r) : EReal)
    ∧ (V m c main_v9 : FVec Ideal S20000x18 .f32) (ix2 r 15) = (args m c).laneCount r
    ∧ (V m c main_v9 : FVec Ideal S20000x18 .f32) (ix2 r 16) = (args m c).width r
    ∧ (V m c main_v9 : FVec Ideal S20000x18 .f32) (ix2 r 17) = (FloatOps.sitofp (F := Ideal) .f32 ((args m c).city r) : EReal) := by
  unfold V
  refine ⟨?_, ?_, ?_, ?_⟩
  all_goals
    after_reads_at
    after_reads_at
    rfl

/-- The second convolution's bias. -/
theorem b2_apply (l : Fin 256) : (V m c main_v43 : FVec Ideal S1x256 .f32) (ix2 0 l) = behind (args m c).b2 l := by
  unfold V
  after_reads_at
  unfold behind
  by_cases h : 32 ≤ (l : ℕ)
  · rw [dif_pos h, dif_pos ⟨h, by omega⟩]
    rfl
  · rw [dif_neg h, dif_neg (fun h' => h h'.1)]
    exact zero_float

/-- The geometry's scale. -/
theorem g_apply (l : Fin 256) : (V m c main_v45 : FVec Ideal S1x256 .f32) (ix2 0 l) = behind (args m c).g l := by
  unfold V
  after_reads_at
  unfold behind
  by_cases h : 32 ≤ (l : ℕ)
  · rw [dif_pos h, dif_pos ⟨h, by omega⟩]
    rfl
  · rw [dif_neg h, dif_neg (fun h' => h h'.1)]
    exact zero_float

/-- The geometry's shift. -/
theorem b_apply (l : Fin 256) : (V m c main_v47 : FVec Ideal S1x256 .f32) (ix2 0 l) = behind (args m c).b l := by
  unfold V
  after_reads_at
  unfold behind
  by_cases h : 32 ≤ (l : ℕ)
  · rw [dif_pos h, dif_pos ⟨h, by omega⟩]
    rfl
  · rw [dif_neg h, dif_neg (fun h' => h h'.1)]
    exact zero_float

/-- The classes' table. -/
theorem hw_apply (k : Fin 12) (l : Fin 256) : (V m c main_arg11 : FVec Ideal S12x256 .f32) (ix2 k l) = (args m c).hwTab k l := by
  unfold V
  after_reads_at
  rfl

/-- The cities' table. -/
theorem city_apply (k : Fin 4) (l : Fin 256) : (V m c main_arg12 : FVec Ideal S4x256 .f32) (ix2 k l) = (args m c).cityTab k l := by
  unfold V
  after_reads_at
  rfl

/-- The lane count's first layer. -/
theorem lw1_apply (l : Fin 128) : (V m c main_arg13 : FVec Ideal S1x128 .f32) (ix2 0 l) = (args m c).lw1 l := by
  unfold V
  after_reads_at
  rfl

/-- Its bias. -/
theorem lb1_apply (l : Fin 128) : (V m c main_v48 : FVec Ideal S1x128 .f32) (ix2 0 l) = (args m c).lb1 l := by
  unfold V
  after_reads_at
  rfl

/-- The lane count's second layer. -/
theorem lw2_apply (k : Fin 128) (l : Fin 256) : (V m c main_arg15 : FVec Ideal S128x256 .f32) (ix2 k l) = (args m c).lw2 k l := by
  unfold V
  after_reads_at
  rfl

/-- Its bias. -/
theorem lb2_apply (l : Fin 256) : (V m c main_v49 : FVec Ideal S1x256 .f32) (ix2 0 l) = (args m c).lb2 l := by
  unfold V
  after_reads_at
  rfl

/-- The row for a missing lane count. -/
theorem lmask_apply (l : Fin 256) : (V m c main_v50 : FVec Ideal S1x256 .f32) (ix2 0 l) = (args m c).lmask l := by
  unfold V
  after_reads_at
  rfl

/-- The width's first layer. -/
theorem ww1_apply (l : Fin 128) : (V m c main_arg18 : FVec Ideal S1x128 .f32) (ix2 0 l) = (args m c).ww1 l := by
  unfold V
  after_reads_at
  rfl

/-- Its bias. -/
theorem wb1_apply (l : Fin 128) : (V m c main_v51 : FVec Ideal S1x128 .f32) (ix2 0 l) = (args m c).wb1 l := by
  unfold V
  after_reads_at
  rfl

/-- The width's second layer. -/
theorem ww2_apply (k : Fin 128) (l : Fin 256) : (V m c main_arg20 : FVec Ideal S128x256 .f32) (ix2 k l) = (args m c).ww2 k l := by
  unfold V
  after_reads_at
  rfl

/-- Its bias. -/
theorem wb2_apply (l : Fin 256) : (V m c main_v52 : FVec Ideal S1x256 .f32) (ix2 0 l) = (args m c).wb2 l := by
  unfold V
  after_reads_at
  rfl

/-- The row for a missing width. -/
theorem wmask_apply (l : Fin 256) : (V m c main_v53 : FVec Ideal S1x256 .f32) (ix2 0 l) = (args m c).wmask l := by
  unfold V
  after_reads_at
  rfl

/-- The semantic scale. -/
theorem sg_apply (l : Fin 256) : (V m c main_v54 : FVec Ideal S1x256 .f32) (ix2 0 l) = (args m c).sg l := by
  unfold V
  after_reads_at
  rfl

/-- The semantic shift. -/
theorem sb_apply (l : Fin 256) : (V m c main_v55 : FVec Ideal S1x256 .f32) (ix2 0 l) = (args m c).sb l := by
  unfold V
  after_reads_at
  rfl

end Cert.Host

end
-- ==== Proof.Convs.lean ====
/- The kernel's two convolutions are the reference's: each is one product of a table with all taps. -/
module

public import proofs.«01_k».proof.Proof.Layout

@[expose] public section

noncomputable section

namespace Cert.Spec

open Idealize.ShloMosaic Cert.Norm Cert.Row

theorem padded_zero {c : ℕ} (X : Fin 5 → Fin c → EReal) (i : Fin c) : padded X 0 i = 0 := by
  unfold padded
  rw [dif_neg (by omega)]

/-- The one product over coordinates and bias is the sum over the taps plus the bias. -/
theorem taps_sum (X : Fin 5 → Fin 2 → EReal) (w : Fin 112 → Fin 2 → Fin 3 → EReal) (b : Fin 112 → EReal) (p : Fin 5) (o : Fin 112) :
    ∑ j : Fin 14, (padded X ((j : ℕ) / 2) ⟨j % 2, by omega⟩ + if (j : ℕ) = 0 then ((1 : ℝ) : EReal) else 0) * tapRow w b p o j
      = ∑ i, padded X p i * w o i 0 + ∑ i, padded X (1 + p) i * w o i 1 + ∑ i, padded X (2 + p) i * w o i 2 + b o := by
  fin_cases p <;>
    simp [Fin.sum_univ_succ, tapRow, padded_zero] <;> abel

/-- The kernel's first convolution. -/
theorem y1_eq (X : Fin 5 → Fin 2 → EReal) (w : Fin 112 → Fin 2 → Fin 3 → EReal) (b : Fin 112 → EReal) {c one : Fin 14 → EReal}
    {t : Fin 14 → Fin 640 → EReal} (hc : ∀ j : Fin 14, c j = padded X ((j : ℕ) / 2) ⟨j % 2, by omega⟩)
    (ho : ∀ j : Fin 14, one j = if (j : ℕ) = 0 then ((1 : ℝ) : EReal) else 0)
    (ht : ∀ (p : Fin 5) (o : Fin 112) (q : Fin 14), t q ⟨128 * p + o, by omega⟩ = tapRow w b p o q) (p : Fin 5) (o : Fin 112) :
    y1 c one t ⟨128 * p + o, by omega⟩ = conv X w b p o := by
  unfold y1 conv
  simp only [hc, ho, ht, taps_sum]

/-- A feature of three neighbouring points is one of the padded sequence. -/
theorem window_eq (Y : Fin 5 → Fin 112 → EReal) {y : Fin 640 → EReal} (hy : ∀ (p : Fin 5) (o : Fin 112), y ⟨128 * p + o, by omega⟩ = Y p o)
    (p : Fin 5) (d : Fin 3) (o : Fin 112) : window (y1f y) p ⟨128 * d + o, by omega⟩ = padded Y (d + p) o := by
  unfold window y1f padded
  dsimp only
  by_cases h : 1 ≤ (d : ℕ) + p ∧ (d : ℕ) + p - 1 < 5
  · rw [dif_pos h, dif_neg (by omega), dif_pos (by omega), ← hy]
    exact congrArg y (Fin.ext (by simp; omega))
  · rw [dif_neg h]
    split_ifs
    · rfl
    · omega
    · rfl

theorem sum_384 (f : Fin 384 → EReal) :
    ∑ q, f q = ∑ e : Fin 128, f ⟨e, by omega⟩ + ∑ e : Fin 128, f ⟨128 + e, by omega⟩ + ∑ e : Fin 128, f ⟨256 + e, by omega⟩ := by
  have h1 : ∑ q, f q = ∑ e : Fin 256, f (Fin.castAdd 128 e) + ∑ e : Fin 128, f (Fin.natAdd 256 e) :=
    Fin.sum_univ_add (a := 256) (b := 128) f
  have h2 : ∑ e : Fin 256, f (Fin.castAdd 128 e)
      = ∑ e : Fin 128, f (Fin.castAdd 128 (Fin.castAdd 128 e)) + ∑ e : Fin 128, f (Fin.castAdd 128 (Fin.natAdd 128 e)) :=
    Fin.sum_univ_add (a := 128) (b := 128) fun e => f (Fin.castAdd 128 e)
  rw [h1, h2]
  rfl

theorem sum_128 (f : Fin 128 → EReal) (h : ∀ e : Fin 128, 112 ≤ (e : ℕ) → f e = 0) :
    ∑ e, f e = ∑ o : Fin 112, f ⟨o, by omega⟩ := by
  have h1 : ∑ e, f e = ∑ e : Fin 112, f (Fin.castAdd 16 e) + ∑ e : Fin 16, f (Fin.natAdd 112 e) :=
    Fin.sum_univ_add (a := 112) (b := 16) f
  rw [h1, Finset.sum_eq_zero (s := Finset.univ) (f := fun e : Fin 16 => f (Fin.natAdd 112 e)) (fun e _ => h _ (by simp)), add_zero]
  rfl

/-- One tap of the second convolution. -/
theorem tap_sum (Y : Fin 5 → Fin 112 → EReal) (w : Fin 224 → Fin 112 → Fin 3 → EReal) {y : Fin 640 → EReal}
    (hy : ∀ (p : Fin 5) (o : Fin 112), y ⟨128 * p + o, by omega⟩ = Y p o) (p : Fin 5) (d : Fin 3) (l : Fin 224) :
    ∑ e : Fin 128, window (y1f y) p ⟨128 * d + e, by omega⟩ * tapRow2 w ⟨128 * d + e, by omega⟩ ⟨32 + l, by omega⟩
      = ∑ o, padded Y (d + p) o * w l o d := by
  rw [sum_128 _ fun e he => ?_]
  · refine Finset.sum_congr rfl fun o _ => ?_
    rw [window_eq Y hy p d o]
    unfold tapRow2 behind
    dsimp only
    rw [dif_pos (by omega), dif_pos (by omega)]
    congr 2 <;> exact Fin.ext (by first | (simp; done) | (simp; omega))
  · unfold tapRow2
    dsimp only
    rw [dif_neg (by omega), mul_zero]

/-- The kernel's second convolution. -/
theorem x2_eq (Y : Fin 5 → Fin 112 → EReal) (w : Fin 224 → Fin 112 → Fin 3 → EReal) (b : Fin 224 → EReal) {y : Fin 640 → EReal}
    (hy : ∀ (p : Fin 5) (o : Fin 112), y ⟨128 * p + o, by omega⟩ = Y p o) (p : Fin 5) (l : Fin 224) :
    x2 (window (y1f y) p) (tapRow2 w) (behind b) ⟨32 + l, by omega⟩ = conv Y w b p l := by
  unfold x2 conv
  rw [sum_384]
  have h0 := tap_sum Y w hy p 0 l
  have h1 := tap_sum Y w hy p 1 l
  have h2 := tap_sum Y w hy p 2 l
  simp only [Fin.val_zero, Fin.val_one, Fin.val_two, mul_zero, mul_one, zero_add, Nat.reduceMul] at h0 h1 h2
  rw [h0, h1, h2]
  have hb : behind b ⟨32 + l, by omega⟩ = b l := by
    unfold behind
    rw [dif_pos (by simp)]
    exact congrArg b (Fin.ext (by simp))
  rw [hb]

/-- In front of its features the second convolution is zero. -/
theorem x2_front (w : Fin 224 → Fin 112 → Fin 3 → EReal) (b : Fin 224 → EReal) (y : Fin 384 → EReal) (l : Fin 32) :
    x2 y (tapRow2 w) (behind b) ⟨l, by omega⟩ = 0 := by
  have hz : ∀ v : Fin 224 → EReal, behind v ⟨l, by omega⟩ = 0 := fun v => by
    unfold behind
    rw [dif_neg (by simp)]
  unfold x2
  have ht : ∀ q, tapRow2 w q ⟨l, by omega⟩ = 0 := fun q => by
    unfold tapRow2
    split_ifs
    · exact hz _
    · rfl
  simp [hz, ht]

theorem padded_real {c : ℕ} {X : Fin 5 → Fin c → EReal} (h : ∀ p i, IsReal (X p i)) (q : ℕ) (i : Fin c) : IsReal (padded X q i) := by
  unfold padded
  split_ifs
  · exact h _ _
  · exact IsReal.zero

/-- A convolution of real numbers is real. -/
theorem conv_real {c d : ℕ} {X : Fin 5 → Fin c → EReal} {w : Fin d → Fin c → Fin 3 → EReal} {b : Fin d → EReal}
    (hX : ∀ p i, IsReal (X p i)) (hw : ∀ o i k, IsReal (w o i k)) (hb : ∀ o, IsReal (b o)) (p : Fin 5) (o : Fin d) :
    IsReal (conv X w b p o) :=
  IsReal.max (((IsReal.sum _ fun i => (padded_real hX _ i).mul (hw o i 0)).add
    (IsReal.sum _ fun i => (padded_real hX _ i).mul (hw o i 1))).add
    (IsReal.sum _ fun i => (padded_real hX _ i).mul (hw o i 2)) |>.add (hb o)) IsReal.zero

theorem eps_pos : (0 : EReal) < eps := by
  simp [eps, Ideal.ofBits, Ideal.ieee, -EReal.coe_mul]

/-- The kernel's normalization of the second convolution is the reference's of its features. -/
theorem geo_eq (Y : Fin 5 → Fin 112 → EReal) (w : Fin 224 → Fin 112 → Fin 3 → EReal) (b g bb : Fin 224 → EReal) {y : Fin 640 → EReal}
    (hy : ∀ (p : Fin 5) (o : Fin 112), y ⟨128 * p + o, by omega⟩ = Y p o) (hr : ∀ p o, IsReal (conv Y w b p o)) (p : Fin 5) (l : Fin 224) :
    one ((1 / (224 : ℝ) : ℝ) : EReal) eps (x2 (window (y1f y) p) (tapRow2 w) (behind b)) (behind g) (behind bb) ⟨32 + l, by omega⟩
      = two ((224 : ℝ) : EReal) eps (conv Y w b p) g bb l := by
  have hb : ∀ (v : Fin 224 → EReal), (fun i : Fin 224 => behind v (Fin.natAdd 32 i : Fin (32 + 224))) = v := fun v => funext fun i => by
    unfold behind
    rw [dif_pos (by simp)]
    exact congrArg v (Fin.ext (by simp))
  have h := one_eq (n := 224) (k := 32) (by norm_num) eps_pos (x2 (window (y1f y) p) (tapRow2 w) (behind b)) (behind g) (behind bb)
    (fun i => x2_front w b _ i) (fun i => ?_) l
  · rw [hb, hb, show (fun i : Fin 224 => x2 (window (y1f y) p) (tapRow2 w) (behind b) (Fin.natAdd 32 i : Fin (32 + 224))) = conv Y w b p from
      funext fun i => x2_eq Y w b hy p i] at h
    exact_mod_cast h
  · by_cases hi : (i : ℕ) < 32
    · rw [show i = (⟨(⟨i, hi⟩ : Fin 32), by omega⟩ : Fin 256) from rfl, x2_front]
      exact IsReal.zero
    · have hi2 := i.2
      have e : i = (⟨32 + (⟨i - 32, by omega⟩ : Fin 224), by simp; omega⟩ : Fin 256) := Fin.ext (by simp; omega)
      rw [e, x2_eq Y w b hy]
      exact hr _ _

end Cert.Spec

end
-- ==== Proof.Sems.lean ====
/- The kernel's semantic features are the reference's. -/
module

public import proofs.«01_k».proof.Proof.Convs

@[expose] public section

noncomputable section

namespace Cert.Spec

open Idealize.ShloMosaic Cert.Norm Cert.Row

/-- A product with a one-hot row takes out the row of the table that it marks. -/
theorem pick_eq {n : ℕ} (hn : n ≤ 12) (tab : Fin n → Fin 256 → EReal) (k : Fin n) (l : Fin 256) :
    pick (FloatOps.sitofp (F := Ideal) .f32 (BitVec.ofNat 32 k)) tab l = tab k l := by
  have hi : ∀ x y : Fin n, (FloatOps.sitofp (F := Ideal) .f32 (BitVec.ofNat 32 x) : EReal)
      = (FloatOps.sitofp (F := Ideal) .f32 (BitVec.ofNat 32 y) : EReal) ↔ x = y := fun x y => by
    show (((BitVec.ofNat 32 x).toInt : ℝ) : EReal) = (((BitVec.ofNat 32 y).toInt : ℝ) : EReal) ↔ _
    rw [EReal.coe_eq_coe_iff, Int.cast_inj, BitVec.toInt_inj]
    constructor
    · intro h
      have := congrArg BitVec.toNat h
      rw [BitVec.toNat_ofNat, BitVec.toNat_ofNat, Nat.mod_eq_of_lt (by omega), Nat.mod_eq_of_lt (by omega)] at this
      exact Fin.ext this
    · rintro rfl
      rfl
  unfold pick
  rw [Finset.sum_eq_single k]
  · have h1 : (FloatOps.sitofp (F := Ideal) .f32 (BitVec.setWidth 32 (BitVec.ofBool true)) : EReal) = 1 := by
      simp [FloatOps.sitofp]
    rw [decide_eq_true rfl, h1, one_mul]
  · intro x _ hx
    have h0 : (FloatOps.sitofp (F := Ideal) .f32 (BitVec.setWidth 32 (BitVec.ofBool false)) : EReal) = 0 := by
      simp [FloatOps.sitofp]
    rw [decide_eq_false (fun h => hx ((hi k x).1 h).symm), h0, zero_mul]
  · intro h
    exact absurd (Finset.mem_univ k) h

/-- The constant 256. -/
theorem n256_eq : n256 = ((256 : ℝ) : EReal) := by
  simp [n256, Ideal.ofBits, Ideal.ieee, -EReal.coe_mul]; norm_num

/-- The kernel's normalization of the semantic features is the reference's. -/
theorem sem_eq (A : Args) (r : Fin 20000) (k : Fin 12) (t : Fin 4) (l : Fin 256) :
    twoR n256 eps (fun i => pick (FloatOps.sitofp (F := Ideal) .f32 (BitVec.ofNat 32 k)) A.hwTab i
        + pick (FloatOps.sitofp (F := Ideal) .f32 (BitVec.ofNat 32 t)) A.cityTab i
        + gate (A.laneCount r) A.lw1 A.lb1 A.lw2 A.lb2 A.lmask i
        + gate (A.width r) A.ww1 A.wb1 A.ww2 A.wb2 A.wmask i) A.sg A.sb l
      = A.sem r k t l := by
  rw [n256_eq, twoR_eq (by norm_num) eps_pos]
  simp only [pick_eq (show 12 ≤ 12 from le_rfl), pick_eq (show 4 ≤ 12 by norm_num)]
  rfl

/-- The kernel's coordinates of a way whose points are real are the reference's, two zeros on either side. -/
theorem cpad_eq (A : Args) (r : Fin 20000) (hr : ∀ p j, IsReal (A.geoms r p j)) {x : Fin 18 → EReal} {sc sh : Fin 14 → EReal}
    (hx : ∀ j : Fin 14, x ⟨j, by omega⟩
      = if h : 2 ≤ (j : ℕ) ∧ (j : ℕ) < 12 then A.geoms r ⟨(j - 2) / 2, by omega⟩ ⟨(j - 2) % 2, by omega⟩ else 0)
    (hc : ∀ j : Fin 14, sc j
      = if 2 ≤ (j : ℕ) ∧ (j : ℕ) < 12 then (if (j : ℕ) % 2 = 0 then ((1 / 60 : ℝ) : EReal) else ((1 / 30 : ℝ) : EReal)) else 0)
    (hh : ∀ j : Fin 14, sh j = if 2 ≤ (j : ℕ) ∧ (j : ℕ) < 12 then ((1 / 2 : ℝ) : EReal) else 0) (j : Fin 14) :
    cpad x sc sh j = padded (A.coord r) ((j : ℕ) / 2) ⟨j % 2, by omega⟩ := by
  unfold cpad padded
  rw [hx, hc, hh]
  by_cases h : 2 ≤ (j : ℕ) ∧ (j : ℕ) < 12
  · rw [dif_pos h, if_pos h, if_pos h, dif_pos (by omega)]
    unfold Args.coord
    have e1 : (⟨(j - 2) / 2, by omega⟩ : Fin 5) = ⟨j / 2 - 1, by omega⟩ := Fin.ext (by simp; omega)
    have e2 : (⟨(j - 2) % 2, by omega⟩ : Fin 2) = ⟨j % 2, by omega⟩ := Fin.ext (by simp; omega)
    rw [e1, e2]
    obtain ⟨v, hv⟩ := hr ⟨j / 2 - 1, by omega⟩ ⟨j % 2, by omega⟩
    rw [hv]
    unfold half span
    by_cases h0 : (j : ℕ) % 2 = 0
    · have : (⟨j % 2, by omega⟩ : Fin 2) = 0 := Fin.ext h0
      rw [if_pos h0, this, if_pos rfl, if_pos rfl, Ideal.div_coe (by norm_num), ← EReal.coe_mul, ← EReal.coe_add, ← EReal.coe_add,
        ← EReal.coe_mul]
      congr 1; ring
    · have : (⟨j % 2, by omega⟩ : Fin 2) = 1 := Fin.ext (by simp; omega)
      rw [if_neg h0, this, if_neg (by decide), if_neg (by decide), Ideal.div_coe (by norm_num), ← EReal.coe_mul, ← EReal.coe_add,
        ← EReal.coe_add, ← EReal.coe_mul]
      congr 1; ring
  · rw [dif_neg h, if_neg h, if_neg h, dif_neg (by omega), zero_mul, add_zero]

theorem coord_real (A : Args) (r : Fin 20000) (hr : ∀ p j, IsReal (A.geoms r p j)) (p : Fin 5) (j : Fin 2) : IsReal (A.coord r p j) := by
  unfold Args.coord half span
  split_ifs
  · rw [Ideal.div_coe (by norm_num)]
    exact ((hr p j).add (IsReal.coe _)).mul (IsReal.coe _)
  · rw [Ideal.div_coe (by norm_num)]
    exact ((hr p j).add (IsReal.coe _)).mul (IsReal.coe _)

end Cert.Spec

end
-- ==== Proof.Tokens.lean ====
/- The kernel's blocks are the mathematics: tokens from lane 128 on, and coordinates. -/
module

public import proofs.«01_k».proof.Proof.Points
public import proofs.«01_k».proof.Proof.Reads
public import proofs.«01_k».proof.Proof.HostRows
public import proofs.«01_k».proof.Proof.Sems

@[expose] public section

set_option maxRecDepth 16384

noncomputable section

namespace Cert.Points

open Idealize.ShloMosaic Idealize.ShloMosaic.TcCoe Cert.KernelIdeal Cert.KernelIdeal.Gen Cert.Row Cert.Norm Cert.Pay Cert.Spec Cert.Host

variable (m : (ℓ : Loc nD τ sig) → Buf (Elt Ideal) ℓ) (c : Dev nD) (t : Fin cfg0.N)

/-- The arguments that the geometry goes through are real numbers. -/
structure RealArgs (A : Args) : Prop where
  geoms : ∀ r p j, IsReal (A.geoms r p j)
  w1 : ∀ o i d, IsReal (A.w1 o i d)
  b1 : ∀ o, IsReal (A.b1 o)
  w2 : ∀ o i d, IsReal (A.w2 o i d)
  b2 : ∀ o, IsReal (A.b2 o)

set_option maxHeartbeats 1000000 in
/-- The normalized coordinates in a block. -/
theorem coords_eq (h : RealArgs (args m c)) (r : Fin 1000) (j : Fin 14) :
    cpad (fun i => (iblk m c 0 t : FVec Ideal S1000x18 .f32) (ix2 r i)) (fun i => (iblk m c 1 t : FVec Ideal S1x14 .f32) (ix2 0 i))
        (fun i => (iblk m c 2 t : FVec Ideal S1x14 .f32) (ix2 0 i)) j
      = padded ((args m c).coord (way t r)) ((j : ℕ) / 2) ⟨j % 2, by omega⟩ := by
  rw [block1 m c t, block2 m c t]
  exact cpad_eq (args m c) (way t r) (h.geoms _) (fun j => (ways_block m c t r _).trans (way_apply m c _ j))
    (fun j => scale_apply m c j) (fun j => shift_apply m c j) j

/-- The features of the first convolution in a block. -/
theorem feats_eq (h : RealArgs (args m c)) (r : Fin 1000) :
    ∃ y : Fin 640 → EReal, (fun q => feats m c t (ix2 r q)) = y1f y
      ∧ ∀ (p : Fin 5) (o : Fin 112), y ⟨128 * p + o, by omega⟩
          = conv ((args m c).coord (way t r)) (args m c).w1 (args m c).b1 p o := by
  refine ⟨_, funext fun q => conv1_apply _ _ _ r q, fun p o => ?_⟩
  refine y1_eq _ _ _ (fun j => ?_) (fun j => ?_) (fun p o q => ?_) p o
  · exact (coords_apply _ _ _ r j).trans (coords_eq m c t h r j)
  · rw [block3 m c t]
    exact first_apply m c j
  · rw [block4 m c t]
    exact taps_apply m c p o q

/-- The geometry part of a block of tokens. -/
theorem geo_tok (h : RealArgs (args m c)) (r : Fin 1000) (p : Fin 5) (l : Fin 224) :
    geoRow (feats m c t) (iblk m c 5 t) (iblk m c 6 t) (iblk m c 7 t) (iblk m c 8 t) r p ⟨32 + l, by omega⟩
      = (args m c).geo (way t r) p l := by
  obtain ⟨y, hf, hy⟩ := feats_eq m c t h r
  unfold geoRow
  rw [hf, block5 m c t, block6 m c t, block7 m c t, block8 m c t, inv224_eq]
  refine Eq.trans (congrFun (congr (congr (congrArg (one _ eps) (congr (congrArg (x2 _)
    (funext fun q => funext fun l => taps2_apply m c q l)) (funext fun l => b2_apply m c l)))
    (funext fun l => g_apply m c l)) (funext fun l => b_apply m c l)) _)
    (geo_eq _ _ _ _ _ hy (conv_real (conv_real (coord_real _ _ (h.geoms _)) h.w1 h.b1) h.w2 h.b2) p l)

/-- The semantic part of a block of tokens. -/
theorem sems_eq (r : Fin 1000) (k : Fin 12) (k' : Fin 4) (hk : (args m c).highway (way t r) = BitVec.ofNat 32 k)
    (hk' : (args m c).city (way t r) = BitVec.ofNat 32 k') (l : Fin 256) :
    sems m c t (ix2 r l) = (args m c).sem (way t r) k k' l := by
  obtain ⟨w1, w2, w3, w4⟩ := way_rest m c (way t r)
  rw [← sem_eq]
  unfold sems
  rw [sem_apply]
  simp only [highway_apply, Pay.city_apply, lanes_apply, width_apply, ways_block, w1, w2, w3, w4, hk, hk',
    block10 m c t, block11 m c t, block12 m c t, block13 m c t, block14 m c t, block15 m c t, block16 m c t, block17 m c t,
    block18 m c t, block19 m c t, block20 m c t, block21 m c t, block22 m c t, block23 m c t]
  refine congrFun (congr (congr (congrArg (twoR n256 eps) (funext fun i => ?_)) (funext fun l => sg_apply m c l))
    (funext fun l => sb_apply m c l)) l
  refine congrArg₂ (· + ·) (congrArg₂ (· + ·) (congrArg₂ (· + ·) ?_ ?_) ?_) ?_
  · exact congrArg (fun T => pick _ T i) (funext fun a => funext fun b => hw_apply m c a b)
  · exact congrArg (fun T => pick _ T i) (funext fun a => funext fun b => Host.city_apply m c a b)
  · exact congrFun (congr (congr (congr (congr (congrArg (gate _) (funext fun l => lw1_apply m c l))
      (funext fun l => lb1_apply m c l)) (funext fun k => funext fun l => lw2_apply m c k l)) (funext fun l => lb2_apply m c l))
      (funext fun l => lmask_apply m c l)) i
  · exact congrFun (congr (congr (congr (congr (congrArg (gate _) (funext fun l => ww1_apply m c l))
      (funext fun l => wb1_apply m c l)) (funext fun k => funext fun l => ww2_apply m c k l)) (funext fun l => wb2_apply m c l))
      (funext fun l => wmask_apply m c l)) i

/-- A block of tokens, from lane 128 on. -/
theorem tok_eq (h : RealArgs (args m c)) (r : Fin 1000) (k : Fin 12) (k' : Fin 4)
    (hk : (args m c).highway (way t r) = BitVec.ofNat 32 k) (hk' : (args m c).city (way t r) = BitVec.ofNat 32 k')
    (p : Fin 5) (l : Fin 512) (hl : 128 ≤ (l : ℕ)) :
    tok m c t r p l = (args m c).token (way t r) k k' p l := by
  unfold tok Args.token
  by_cases h1 : (l : ℕ) < 256
  · rw [dif_pos h1, dif_pos h1, ← geo_tok m c t h]
    exact congrArg (geoRow _ _ _ _ _ _ _) (Fin.ext (by simp; omega))
  · rw [dif_neg h1, dif_neg h1]
    exact sems_eq m c t r k k' hk hk' _

/-- A block of coordinates. -/
theorem coord_eq (h : RealArgs (args m c)) (r : Fin 1000) (p : Fin 5) (j : Fin 2) :
    k0_pay6 (F := Ideal) (iblk m c 0 t) (iblk m c 1 t) (iblk m c 2 t) (ix2 r ⟨2 * p + j, by omega⟩)
      = (args m c).coord (way t r) p j := by
  refine (coordsOut_apply _ _ _ r ⟨2 * p + j, by omega⟩).trans ((coords_eq m c t h r _).trans ?_)
  unfold padded
  rw [dif_pos (by simp; omega)]
  exact congrArg₂ ((args m c).coord (way t r)) (Fin.ext (by simp; omega)) (Fin.ext (by simp; omega))

end Cert.Points

end
-- ==== Proof.Arrays.lean ====
/- The kernel's result arrays: what each grid point wrote, put together. -/
module

public import proofs.«01_k».proof.Proof.Tokens

@[expose] public section

set_option maxRecDepth 16384

noncomputable section

namespace Cert.Points

open Idealize.ShloMosaic Idealize.ShloMosaic.TcCoe Cert.KernelIdeal Cert.KernelIdeal.Gen Cert.Row Cert.Norm Cert.Pay Cert.Spec Cert.Host

variable (m : (ℓ : Loc nD τ sig) → Buf (Elt Ideal) ℓ) (c : Dev nD)

/-- The grid point that computes way `i`. -/
def pointOf (i : Fin 20000) : Fin cfg0.N := ⟨(i : ℕ) / 1000, lt_of_lt_of_eq (by omega) N_0.symm⟩

/-- The row of its block. -/
def rowOf (i : Fin 20000) : Fin 1000 := ⟨(i : ℕ) % 1000, by omega⟩

theorem way_of (i : Fin 20000) : way (pointOf i) (rowOf i) = i := by
  unfold way pointOf rowOf
  exact Fin.ext (by simp; omega)

theorem of_way (t : Fin cfg0.N) (r : Fin 1000) (i : Fin 20000) (h : (i : ℕ) = t * 1000 + r) :
    pointOf i = t ∧ rowOf i = r := by
  unfold pointOf rowOf
  exact ⟨Fin.ext (by simp [h]; omega), Fin.ext (by simp [h])⟩

/-- The array of tokens. -/
theorem tokens_array (i : Fin 20000) (j : Fin 2560) :
    ((dats m 0 c).arrAt 24 cfg0.N : FVec Ideal S20000x2560 .f32) (ix2 i j)
      = ((outsAt0 m c (pointOf i)).1 : FVec Ideal S1000x2560 .f32) (ix2 (rowOf i) j) := by
  have h : ((dats m 0 c).arrAt 24 cfg0.N : FVec Ideal S20000x2560 .f32)
      = fun x => ((outsAt0 m c (pointOf (x 0))).1 : FVec Ideal S1000x2560 .f32) (ix2 (rowOf (x 0)) (x 1)) := by
    refine (dats m 0 c).arrAt_eq_of_covers 24 _ (by decide +kernel) fun t hf y => ?_
    blk_simp
    rw [after0_24]
    obtain ⟨h1, h2⟩ := index24 t
    have e0 := Pipeline.Window.rect_emb_val win0_24 t y 0 rfl
    have e1 := Pipeline.Window.rect_emb_val win0_24 t y 1 rfl
    rw [h1] at e0
    rw [h2, zero_mul, zero_add] at e1
    have key : ∀ (a : Fin 20000) (b : Fin 2560), (a : ℕ) = t * 1000 + (y 0 : Fin 1000) → (b : ℕ) = (y 1 : Fin 2560) →
        ((outsAt0 m c t).1 : FVec Ideal S1000x2560 .f32) y
          = ((outsAt0 m c (pointOf a)).1 : FVec Ideal S1000x2560 .f32) (ix2 (rowOf a) b) := by
      intro a b ha hb
      obtain ⟨a0, a1⟩ := of_way t (y 0) a ha
      rw [a0, a1, Fin.ext hb]
      exact congrArg _ (funext fun d => by fin_cases d <;> rfl)
    exact key _ _ e0 e1
  rw [h]
  rfl

/-- The array of coordinates. -/
theorem coords_array (i : Fin 20000) (j : Fin 10) :
    ((dats m 0 c).arrAt 25 cfg0.N : FVec Ideal S20000x10 .f32) (ix2 i j)
      = ((outsAt0 m c (pointOf i)).2 : FVec Ideal S1000x10 .f32) (ix2 (rowOf i) j) := by
  have h : ((dats m 0 c).arrAt 25 cfg0.N : FVec Ideal S20000x10 .f32)
      = fun x => ((outsAt0 m c (pointOf (x 0))).2 : FVec Ideal S1000x10 .f32) (ix2 (rowOf (x 0)) (x 1)) := by
    refine (dats m 0 c).arrAt_eq_of_covers 25 _ (by decide +kernel) fun t hf y => ?_
    blk_simp
    rw [after0_25]
    obtain ⟨h1, h2⟩ := index25 t
    have e0 := Pipeline.Window.rect_emb_val win0_25 t y 0 rfl
    have e1 := Pipeline.Window.rect_emb_val win0_25 t y 1 rfl
    rw [h1] at e0
    rw [h2, zero_mul, zero_add] at e1
    have key : ∀ (a : Fin 20000) (b : Fin 10), (a : ℕ) = t * 1000 + (y 0 : Fin 1000) → (b : ℕ) = (y 1 : Fin 10) →
        ((outsAt0 m c t).2 : FVec Ideal S1000x10 .f32) y
          = ((outsAt0 m c (pointOf a)).2 : FVec Ideal S1000x10 .f32) (ix2 (rowOf a) b) := by
      intro a b ha hb
      obtain ⟨a0, a1⟩ := of_way t (y 0) a ha
      rw [a0, a1, Fin.ext hb]
      exact congrArg _ (funext fun d => by fin_cases d <;> rfl)
    exact key _ _ e0 e1
  rw [h]
  rfl

/-- A token's lane, from the normalized ones on, in the array. -/
theorem token_result (h : RealArgs (args m c)) (r : Fin 20000) (k : Fin 12) (k' : Fin 4)
    (hk : (args m c).highway r = BitVec.ofNat 32 k) (hk' : (args m c).city r = BitVec.ofNat 32 k')
    (p : Fin 5) (l : Fin 512) (hl : 128 ≤ (l : ℕ)) :
    ((dats m 0 c).arrAt 24 cfg0.N : FVec Ideal S20000x2560 .f32) (ix2 r ⟨512 * p + l, by omega⟩)
      = (args m c).token r k k' p l := by
  have e1 : (512 * (p : ℕ) + l) / 512 = p := by omega
  have e2 : (512 * (p : ℕ) + l) % 512 = l := by omega
  rw [tokens_array, tokens_block m c _ _ _ (by simpa only [e2] using hl)]
  have := tok_eq m c (pointOf r) h (rowOf r) k k' (by rw [way_of]; exact hk) (by rw [way_of]; exact hk') p l hl
  rw [way_of] at this
  rw [← this]
  exact congrArg₂ (tok m c _ _) (Fin.ext e1) (Fin.ext e2)

/-- A coordinate, in the array. -/
theorem coord_result (h : RealArgs (args m c)) (r : Fin 20000) (p : Fin 5) (j : Fin 2) :
    ((dats m 0 c).arrAt 25 cfg0.N : FVec Ideal S20000x10 .f32) (ix2 r ⟨2 * p + j, by omega⟩)
      = (args m c).coord r p j := by
  have := coord_eq m c (pointOf r) h (rowOf r) p j
  rw [way_of] at this
  rw [coords_array, coords_block, this]

/-- The mask that the host writes before it launches. -/
theorem mask_read : (V m c main_v56 : IVec S1x100000 1) = fun _ => 0#1 := by
  unfold V
  after_reads_simp
  clean_types
  funext i
  pointwise

open Cert.KernelIdeal.Value in
/-- What the kernel leaves in its three results when the numbers it convolves are real. -/
theorem results (m : (ℓ : Loc nD τ sig) → Buf (Elt Ideal) ℓ) (ρ : Dev nD → PrngReg) :
    θ_run defs (onTc (τ := τ) (main (F := Ideal))) ⟨m, fun _ => 0, ρ⟩ fun s => ∀ c : Dev nD, RealArgs (args m c) →
      (∀ (r : Fin 20000) (k : Fin 12) (t : Fin 4), (args m c).highway r = BitVec.ofNat 32 k →
        (args m c).city r = BitVec.ofNat 32 t → ∀ (p : Fin 5) (l : Fin 512), 128 ≤ (l : ℕ) →
          (s.2.mem ((c.tc : Thread nD τ).loc main_v57_0) : FVec Ideal S20000x2560 .f32) (ix2 r ⟨512 * p + l, by omega⟩)
            = (args m c).token r k t p l)
      ∧ (s.2.mem ((c.tc : Thread nD τ).loc main_v56) : IVec S1x100000 1) = (fun _ => 0#1)
      ∧ (∀ (r : Fin 20000) (p : Fin 5) (j : Fin 2),
        (s.2.mem ((c.tc : Thread nD τ).loc main_v57_1) : FVec Ideal S20000x10 .f32) (ix2 r ⟨2 * p + j, by omega⟩)
          = (args m c).coord r p j) := by
  refine (θ_run defs _ _).mono (fun s h c hr => ⟨fun r k t hk ht p l hl => ?_, ?_, fun r p j => ?_⟩) (run_main m ρ)
  · rw [post24 m s h c]
    exact token_result m c hr r k t hk ht p l hl
  · exact ((h c).2 main_v56 (Pipeline.mem_restRefs_of main_v56 (by decide) (by decide))).trans (mask_read m c)
  · rw [post25 m s h c]
    exact coord_result m c hr r p j

end Cert.Points

end
-- ==== Proof.RefGeo.lean ====
/- What the reference computes of a way's geometry, element by element. -/
module

public import Idealize.ShloMosaic.Lib.Pointwise
public import Idealize.ShloMosaic.Lib.Tactic.CleanTypes
public import Idealize.ShloMosaic.Lib.Routing.Ops
public import proofs.«01_k».proof.Proof.Spec
public import proofs.«01_k».proof.Proof.Gen.ReferenceIdeal
public import proofs.«01_k».proof.Proof.Gen.ReferenceIdeal.Run

@[expose] public section

set_option maxRecDepth 16384

noncomputable section

namespace Cert.Ref

open Idealize.ShloMosaic Cert.ReferenceIdeal Cert.ReferenceIdeal.Gen Cert.ReferenceIdeal.Value Idealize.SL.Sem Idealize.ShloMosaic.StableHlo
open Cert.Spec

/-- The arguments as the reference holds them. -/
def args (V : Valuation τ sig (Elt Ideal)) : Args where
  geoms r p j := V (Proc.tc.devRef main_arg0) (ix3 r p j)
  highway r := V (Proc.tc.devRef main_arg1) (ix1 r)
  lanes r := V (Proc.tc.devRef main_arg2) (ix1 r)
  width r := V (Proc.tc.devRef main_arg3) (ix1 r)
  city r := V (Proc.tc.devRef main_arg4) (ix1 r)
  w1 o i d := V (Proc.tc.devRef main_arg5) (ix3 o i d)
  b1 o := V (Proc.tc.devRef main_arg6) (ix1 o)
  w2 o i d := V (Proc.tc.devRef main_arg7) (ix3 o i d)
  b2 o := V (Proc.tc.devRef main_arg8) (ix1 o)
  g o := V (Proc.tc.devRef main_arg9) (ix1 o)
  b o := V (Proc.tc.devRef main_arg10) (ix1 o)
  hwTab k l := V (Proc.tc.devRef main_arg11) (ix2 k l)
  cityTab k l := V (Proc.tc.devRef main_arg12) (ix2 k l)
  lw1 l := V (Proc.tc.devRef main_arg13) (ix2 0 l)
  lb1 l := V (Proc.tc.devRef main_arg14) (ix1 l)
  lw2 k l := V (Proc.tc.devRef main_arg15) (ix2 k l)
  lb2 l := V (Proc.tc.devRef main_arg16) (ix1 l)
  lmask l := V (Proc.tc.devRef main_arg17) (ix1 l)
  ww1 l := V (Proc.tc.devRef main_arg18) (ix2 0 l)
  wb1 l := V (Proc.tc.devRef main_arg19) (ix1 l)
  ww2 k l := V (Proc.tc.devRef main_arg20) (ix2 k l)
  wb2 l := V (Proc.tc.devRef main_arg21) (ix1 l)
  wmask l := V (Proc.tc.devRef main_arg22) (ix1 l)
  sg l := V (Proc.tc.devRef main_arg23) (ix1 l)
  sb l := V (Proc.tc.devRef main_arg24) (ix1 l)

variable (V : Valuation τ sig (Elt Ideal))

theorem zero_float : (FloatOps.sitofp .f32 (0#32) : Ideal .f32) = (0 : EReal) := by
  simp [FloatOps.sitofp]

theorem coord_apply (r : Fin 20000) (p : Fin 5) (j : Fin 2) :
    (res_main_v5 (F := Ideal) V : FVec Ideal S20000x5x2 .f32) (ix3 r p j) = (args V).coord r p j := by
  unfold res_main_v5
  clean_types
  pointwise
  have e0 : ∀ j : Fin 2, (Ideal.ofBits .f32 (lit0 (S2.rowMajor (ix1 j))) : EReal) = half j := by
    intro j
    fin_cases j
    · show Ideal.ofBits .f32 (lit0 0) = _
      simp [half, lit0, Ideal.ofBits, Ideal.ieee, -EReal.coe_mul]; norm_num
    · show Ideal.ofBits .f32 (lit0 1) = _
      simp [half, lit0, Ideal.ofBits, Ideal.ieee, -EReal.coe_mul]; norm_num
  have e1 : ∀ j : Fin 2, (Ideal.ofBits .f32 (lit1 (S2.rowMajor (ix1 j))) : EReal) = span j := by
    intro j
    fin_cases j
    · show Ideal.ofBits .f32 (lit1 0) = _
      simp [span, lit1, Ideal.ofBits, Ideal.ieee, -EReal.coe_mul]; norm_num
    · show Ideal.ofBits .f32 (lit1 1) = _
      simp [span, lit1, Ideal.ofBits, Ideal.ieee, -EReal.coe_mul]; norm_num
  rw [e0, e1]
  rfl

theorem padded_apply (r : Fin 20000) (p : Fin 7) (j : Fin 2) :
    (res_main_v20 (F := Ideal) V : FVec Ideal S20000x7x2 .f32) (ix3 r p j) = padded ((args V).coord r) p j := by
  unfold res_main_v20
  clean_types
  pointwise
  simp only [coord_apply, zero_float]
  rfl

theorem first_apply (r : Fin 20000) (p : Fin 7) (j : Fin 112) :
    (res_main_v42 (F := Ideal) V : FVec Ideal S20000x7x112 .f32) (ix3 r p j)
      = padded (conv ((args V).coord r) (args V).w1 (args V).b1) p j := by
  unfold res_main_v42
  clean_types
  pointwise
  simp only [padded_apply, zero_float]
  rfl

theorem feat_apply (r : Fin 20000) (p : Fin 5) (j : Fin 224) :
    (res_main_v63 (F := Ideal) V : FVec Ideal S20000x5x224 .f32) (ix3 r p j) = (args V).feat r p j := by
  unfold res_main_v63
  clean_types
  pointwise
  simp only [first_apply]
  rfl

end Cert.Ref

end
-- ==== Proof.RefSem.lean ====
/- What the reference computes of a way's classes and numbers, and its results. -/
module

public import proofs.«01_k».proof.Proof.RefGeo

@[expose] public section

set_option maxRecDepth 16384

noncomputable section

namespace Cert.Ref

open Idealize.ShloMosaic Cert.ReferenceIdeal Cert.ReferenceIdeal.Gen Cert.ReferenceIdeal.Value Idealize.SL.Sem Idealize.ShloMosaic.StableHlo
open Cert.Spec Cert.Row

variable (V : Valuation τ sig (Elt Ideal))

/-- A class in range is its own table row. -/
theorem class_apply (r : Fin 20000) (k : Fin 12) (h : (args V).highway r = BitVec.ofNat 32 k) :
    (res_main_call2_v5 (F := Ideal) V : IVec S20000x1 32) (ix2 r 0) = BitVec.ofNat 32 k := by
  unfold res_main_call2_v5
  clean_types
  pointwise
  change V (Proc.tc.devRef main_arg1) (ix1 r) = _ at h
  rw [h]
  clear h
  revert k; decide

/-- A city in range is its own table row. -/
theorem town_apply (r : Fin 20000) (k : Fin 4) (h : (args V).city r = BitVec.ofNat 32 k) :
    (res_main_call3_v5 (F := Ideal) V : IVec S20000x1 32) (ix2 r 0) = BitVec.ofNat 32 k := by
  unfold res_main_call3_v5
  clean_types
  pointwise
  change V (Proc.tc.devRef main_arg4) (ix1 r) = _ at h
  rw [h]
  clear h
  revert k; decide

/-- An integer is minus one where its float is. -/
theorem missing_iff (v : BitVec 32) : (FloatOps.sitofp (F := Ideal) .f32 v : EReal) = missing ↔ v = 4294967295#32 := by
  have e : missing = ((-1 : ℝ) : EReal) := by
    simp [missing, Ideal.ofBits, Ideal.ieee, -EReal.coe_mul]; norm_num
  rw [e]
  show (((v.toInt : ℝ)) : EReal) = _ ↔ _
  rw [EReal.coe_eq_coe_iff, ← BitVec.toInt_inj]
  have : (4294967295#32).toInt = -1 := by decide
  rw [this]
  exact_mod_cast Iff.rfl

/-- The choice by the integer is the choice by the float. -/
theorem select_missing (v : BitVec 32) (a b : EReal) :
    Scalar.select (IntOp.cmpi .ne v 4294967295#32) a b
      = if (FloatOps.sitofp (F := Ideal) .f32 v : EReal) ≠ missing then a else b := by
  have := missing_iff v
  by_cases h : v = 4294967295#32
  · subst h
    rw [if_neg (by rw [ne_eq, this]; simp)]
    rfl
  · rw [if_pos (by rw [ne_eq, this]; exact h)]
    have hb : (v != 4294967295#32) = true := by simpa using h
    show (if BitVec.ofBool (v != 4294967295#32) = 1#1 then a else b) = a
    rw [hb]
    rfl

theorem sum_apply (r : Fin 20000) (k : Fin 12) (t : Fin 4) (hk : (args V).highway r = BitVec.ofNat 32 k)
    (ht : (args V).city r = BitVec.ofNat 32 t) (l : Fin 256) :
    (res_main_v128 (F := Ideal) V : FVec Ideal S20000x256 .f32) (ix2 r l) = (args V).sum r k t l := by
  unfold res_main_v128
  clean_types
  pointwise
  have g1 := Routing.gather_row (α := EReal) gather_S12x256_S20000x1_S20000x256_1_0_n_n_0_1_1256 rfl rfl rfl rfl rfl
    (V (Proc.tc.devRef main_arg11)) (res_main_call2_v5 (F := Ideal) V) r l k (class_apply V r k hk) (by decide)
  have g2 := Routing.gather_row (α := EReal) gather_S4x256_S20000x1_S20000x256_1_0_n_n_0_1_1256 rfl rfl rfl rfl rfl
    (V (Proc.tc.devRef main_arg12)) (res_main_call3_v5 (F := Ideal) V) r l t (town_apply V r t ht) (by decide)
  rw [← ix2_eq_valueIdx] at g1 g2
  rw [g1, g2, ← ix2_eq_valueIdx, ← ix2_eq_valueIdx, select_missing]
  simp only [Fin.isValue, Finset.univ_unique, Fin.default_eq_zero, Finset.fold_singleton, Finset.sum_singleton,
    class_apply V r k hk, town_apply V r t ht]
  have c1 : ∀ k : Fin 12, IntOp.andi (IntOp.andi (IntOp.cmpi .sge (BitVec.ofNat 32 (k : ℕ)) 0#32)
      (IntOp.cmpi .sle (BitVec.ofNat 32 (k : ℕ)) 11#32)) 1#1 = 1#1 := by decide
  have c2 : ∀ k : Fin 4, IntOp.andi (IntOp.andi (IntOp.cmpi .sge (BitVec.ofNat 32 (k : ℕ)) 0#32)
      (IntOp.cmpi .sle (BitVec.ofNat 32 (k : ℕ)) 3#32)) 1#1 = 1#1 := by decide
  rw [c1, c2]
  rfl

/-- The constant 224. -/
theorem n224_eq : (Ideal.ofBits .f32 0x43600000#32 : EReal) = ((224 : ℝ) : EReal) := by
  simp [Ideal.ofBits, Ideal.ieee, -EReal.coe_mul]; norm_num

/-- The constant 256. -/
theorem n256_eq : n256 = ((256 : ℝ) : EReal) := by
  simp [n256, Ideal.ofBits, Ideal.ieee, -EReal.coe_mul]; norm_num

/-- The arguments are as they were. -/
def Kept (m : (ℓ : Loc nD τ sig) → Buf (Elt Ideal) ℓ) (c : Dev nD) (s : (ℓ : Loc nD τ sig) → Buf (Elt Ideal) ℓ) : Prop :=
  s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9)
      ∧ s ((c.tc : Thread nD τ).loc main_arg10) = m ((c.tc : Thread nD τ).loc main_arg10)
      ∧ s ((c.tc : Thread nD τ).loc main_arg11) = m ((c.tc : Thread nD τ).loc main_arg11)
      ∧ s ((c.tc : Thread nD τ).loc main_arg12) = m ((c.tc : Thread nD τ).loc main_arg12)
      ∧ s ((c.tc : Thread nD τ).loc main_arg13) = m ((c.tc : Thread nD τ).loc main_arg13)
      ∧ s ((c.tc : Thread nD τ).loc main_arg14) = m ((c.tc : Thread nD τ).loc main_arg14)
      ∧ s ((c.tc : Thread nD τ).loc main_arg15) = m ((c.tc : Thread nD τ).loc main_arg15)
      ∧ s ((c.tc : Thread nD τ).loc main_arg16) = m ((c.tc : Thread nD τ).loc main_arg16)
      ∧ s ((c.tc : Thread nD τ).loc main_arg17) = m ((c.tc : Thread nD τ).loc main_arg17)
      ∧ s ((c.tc : Thread nD τ).loc main_arg18) = m ((c.tc : Thread nD τ).loc main_arg18)
      ∧ s ((c.tc : Thread nD τ).loc main_arg19) = m ((c.tc : Thread nD τ).loc main_arg19)
      ∧ s ((c.tc : Thread nD τ).loc main_arg20) = m ((c.tc : Thread nD τ).loc main_arg20)
      ∧ s ((c.tc : Thread nD τ).loc main_arg21) = m ((c.tc : Thread nD τ).loc main_arg21)
      ∧ s ((c.tc : Thread nD τ).loc main_arg22) = m ((c.tc : Thread nD τ).loc main_arg22)
      ∧ s ((c.tc : Thread nD τ).loc main_arg23) = m ((c.tc : Thread nD τ).loc main_arg23)
      ∧ s ((c.tc : Thread nD τ).loc main_arg24) = m ((c.tc : Thread nD τ).loc main_arg24)

/-- What the reference leaves in its three results, its tokens from lane 128 on, the mask, and the coordinates; and
    that it leaves its arguments alone. -/
theorem results_run (m : (ℓ : Loc nD τ sig) → Buf (Elt Ideal) ℓ) (ρ : Dev nD → PrngReg) :
    θ_run defs (onTc (τ := τ) (main (F := Ideal))) ⟨m, fun _ => 0, ρ⟩ fun s => ∀ c : Dev nD,
      (∀ (r : Fin 20000) (k : Fin 12) (t : Fin 4), (args (launchContents m c)).highway r = BitVec.ofNat 32 k →
        (args (launchContents m c)).city r = BitVec.ofNat 32 t → ∀ (p : Fin 5) (l : Fin 512), 128 ≤ (l : ℕ) →
          (s.2.mem ((c.tc : Thread nD τ).loc main_v159) : FVec Ideal S20000x2560 .f32) (ix2 r ⟨512 * p + l, by omega⟩)
            = (args (launchContents m c)).token r k t p l)
      ∧ (s.2.mem ((c.tc : Thread nD τ).loc main_v158) : IVec S1x100000 1) = (fun _ => 0#1)
      ∧ (∀ (r : Fin 20000) (p : Fin 5) (j : Fin 2),
        (s.2.mem ((c.tc : Thread nD τ).loc main_v160) : FVec Ideal S20000x10 .f32) (ix2 r ⟨2 * p + j, by omega⟩)
          = (args (launchContents m c)).coord r p j)
      ∧ Kept m c s.2.mem := by
  refine (θ_run defs _ _).mono (fun s h c => ⟨fun r k t hk ht p l hl => ?_, ?_, fun r p j => ?_, (h c).2.2.2⟩) (run m ρ)
  · rw [(h c).1]
    generalize launchContents m c = V at *
    unfold res_main_v67 res_main_v132
    clean_types
    pointwise
    simp only [feat_apply, sum_apply V r k t hk ht, n224_eq]
    unfold Args.token
    by_cases h1 : (l : ℕ) < 256
    · rw [dif_pos h1, dif_pos h1, dif_neg (by omega)]
      rfl
    · rw [dif_neg h1, dif_neg h1]
      unfold Args.sem
      rw [← n256_eq]
      rfl
  · exact (h c).2.1
  · rw [(h c).2.2.1]
    generalize launchContents m c = V at *
    clean_types
    pointwise
    rw [← coord_apply]

end Cert.Ref

end
-- ==== Proof.Drawn.lean ====
/- What the precondition and the set of compared lanes say. -/
module

public import proofs.«01_k».proof.Defs
public import proofs.«01_k».proof.Proof.Tokens
public import proofs.«01_k».proof.Proof.RefSem
public import proofs.«01_k».proof.Proof.Gen.Pre_drawn
public import proofs.«01_k».proof.Proof.Gen.On_beyond_lane_128

@[expose] public section

set_option maxRecDepth 16384

noncomputable section

namespace Cert.Drawn

open Idealize.ShloMosaic Idealize.ShloMosaic.TcCoe Cert.KernelIdeal Cert.Norm Cert.Spec

/-- The bit pattern of infinity. -/
theorem inf_eq : (Ideal.ofBits .f32 0x7F800000#32 : EReal) = ⊤ := by
  simp [Ideal.ofBits, Ideal.ieee]

/-- A number is real where its absolute value compares as below infinity. -/
theorem real_of_bit {x : EReal}
    (h : BitVec.ofBool (decide ((FloatOps.absf (F := Ideal) (φ := .f32) x : EReal) < Ideal.ofBits .f32 2139095040#32)) = 1#1) :
    IsReal x := by
  apply IsReal.of_abs_lt
  rw [inf_eq] at h
  by_contra hn
  have h' : BitVec.ofBool (decide (max x (-x) < ⊤)) = 1#1 := h
  rw [decide_eq_false hn] at h'
  exact absurd h' (by decide)

/-- A word that compares as at least zero and below `n` is one of the first `n`. -/
theorem word_of_bits {n : ℕ} (hn : n < 100) {v : BitVec 32}
    (h : IntOp.andi (IntOp.cmpi .sge v 0#32) (IntOp.cmpi .slt v (BitVec.ofNat 32 n)) = 1#1) :
    ∃ k : Fin n, v = BitVec.ofNat 32 k := by
  have e : (BitVec.ofNat 32 n).toInt = n := by
    rw [BitVec.toInt_eq_toNat_of_lt (by simp; omega)]; simp; omega
  have h1 : (0#32).sle v = true := by
    by_contra hc
    simp only [IntOp.andi, IntOp.cmpi, Bool.not_eq_true] at h hc
    rw [hc] at h
    simp at h
  have h2 : v.slt (BitVec.ofNat 32 n) = true := by
    by_contra hc
    simp only [IntOp.andi, IntOp.cmpi, Bool.not_eq_true] at h hc
    rw [hc] at h
    simp at h
  rw [BitVec.sle_iff_toInt_le] at h1
  rw [BitVec.slt_iff_toInt_lt, e] at h2
  simp only [BitVec.toInt_zero] at h1
  have hv : v.toInt = v.toNat := by
    rw [BitVec.toInt_eq_toNat_cond] at h1 h2 ⊢
    split_ifs with hc
    · rfl
    · have := v.isLt
      rw [if_neg hc] at h1
      omega
  refine ⟨⟨v.toNat, by omega⟩, ?_⟩
  simp

variable {m : (ℓ : Loc nD τ sig) → Buf (Elt Ideal) ℓ}

/-- Every class is one of the twelve. -/
theorem class_of (h : Pre_KernelIdeal_drawn m) (c : Dev nD) (r : Fin 20000) :
    ∃ k : Fin 12, (Host.args m c).highway r = BitVec.ofNat 32 k := by
  have := congrFun (h c).1 (ix1 r)
  unfold Cert.Pre_drawn.fn Cert.Pre_drawn.fn_part1 at this
  dsimp only at this
  pointwise at this
  exact word_of_bits (by decide) this

/-- Every city is one of the four. -/
theorem city_of (h : Pre_KernelIdeal_drawn m) (c : Dev nD) (r : Fin 20000) :
    ∃ k : Fin 4, (Host.args m c).city r = BitVec.ofNat 32 k := by
  have := congrFun (h c).2.1 (ix1 r)
  unfold Cert.Pre_drawn.fn Cert.Pre_drawn.fn_part1 at this
  dsimp only at this
  pointwise at this
  exact word_of_bits (by decide) this

/-- The points and the two convolutions are real. -/
theorem real_of (h : Pre_KernelIdeal_drawn m) (c : Dev nD) : Points.RealArgs (Host.args m c) := by
  obtain ⟨-, -, h1, h2, h3, h4, h5⟩ := h c
  unfold Cert.Pre_drawn.fn Cert.Pre_drawn.fn_part1 at h1 h2 h3 h4 h5
  dsimp only at h1 h2 h3 h4 h5
  refine ⟨fun r p j => ?_, fun o i d => ?_, fun o => ?_, fun o i d => ?_, fun o => ?_⟩
  · have := congrFun h1 (ix3 r p j)
    pointwise at this
    exact real_of_bit this
  · have := congrFun h2 (ix3 o i d)
    pointwise at this
    exact real_of_bit this
  · have := congrFun h3 (ix1 o)
    pointwise at this
    exact real_of_bit this
  · have := congrFun h4 (ix3 o i d)
    pointwise at this
    exact real_of_bit this
  · have := congrFun h5 (ix1 o)
    pointwise at this
    exact real_of_bit this

/-- A column of the tokens that is compared lies beyond the first 128 lanes of its token. -/
theorem beyond {x0 x1 x2 x3 x4 x5 x6 x7 x8 x9 x10 x11 x12 x13 x14 x15 x16 x17 x18 x19 x20 x21 x22 x23 x24}
    {r : Fin 20000} {j : Fin 2560}
    (h : (Cert.On_beyond_lane_128.fn (F := Ideal) x0 x1 x2 x3 x4 x5 x6 x7 x8 x9 x10 x11 x12 x13 x14 x15 x16 x17 x18 x19
      x20 x21 x22 x23 x24).1 (ix2 r j) = 1#1) : 128 ≤ (j : ℕ) % 512 := by
  unfold Cert.On_beyond_lane_128.fn at h
  dsimp only at h
  pointwise at h
  have e : (128#32).sle (BitVec.ofNat 32 ((j : ℕ) % 512)) = true := by
    by_contra hc
    simp only [IntOp.cmpi, Bool.not_eq_true] at h hc
    rw [hc] at h
    simp at h
  rw [BitVec.sle_iff_toInt_le, BitVec.toInt_eq_toNat_of_lt (by simp), BitVec.toInt_eq_toNat_of_lt (by simp; omega)] at e
  simp at e
  omega

end Cert.Drawn

end
-- ==== Proof.Equal.lean ====
/- The kernel and the reference end with the same tokens, mask and coordinates. -/
module

public import proofs.«01_k».proof.Proof.Arrays
public import proofs.«01_k».proof.Proof.Drawn
public import Idealize.ShloMosaic.Lib.Claim
public import Idealize.ShloMosaic.Lib.Quiescent

@[expose] public section

set_option maxRecDepth 16384

noncomputable section

namespace Cert.Equal

open Idealize.ShloMosaic Idealize.ShloMosaic.TcCoe Idealize.ShloMosaic.StableHlo Cert.KernelIdeal Cert.Spec

/-- The tokens as an array, given the class and the city of each way. -/
def tokens (A : Args) (k : Fin 20000 → Fin 12) (t : Fin 20000 → Fin 4) : FVec Ideal S20000x2560 .f32 := fun i =>
  A.token (i 0) (k (i 0)) (t (i 0)) ⟨(i 1 : Fin 2560) / 512, by have h : ((i 1 : Fin 2560) : ℕ) < 2560 := (i 1).isLt; omega⟩
    ⟨(i 1 : Fin 2560) % 512, by omega⟩

/-- The coordinates as an array. -/
def coords (A : Args) : FVec Ideal S20000x10 .f32 := fun i =>
  A.coord (i 0) ⟨(i 1 : Fin 10) / 2, by have h : ((i 1 : Fin 10) : ℕ) < 10 := (i 1).isLt; omega⟩ ⟨(i 1 : Fin 10) % 2, by omega⟩

/-- An array that agrees with the tokens lane by lane agrees with them at every column whose lane is compared. -/
theorem tokens_at {A : Args} {k : Fin 20000 → Fin 12} {t : Fin 20000 → Fin 4} {x : FVec Ideal S20000x2560 .f32}
    (h : ∀ (r : Fin 20000) (p : Fin 5) (l : Fin 512), 128 ≤ (l : ℕ) →
      x (ix2 r ⟨512 * p + l, by omega⟩) = A.token r (k r) (t r) p l)
    (r : Fin 20000) (j : Fin 2560) (hj : 128 ≤ (j : ℕ) % 512) : x (ix2 r j) = tokens A k t (ix2 r j) := by
  refine Eq.trans (congrArg x ?_) (h r ⟨(j : ℕ) / 512, by omega⟩ ⟨(j : ℕ) % 512, by omega⟩ hj)
  exact congrArg (ix2 r) (Fin.ext (Nat.div_add_mod _ _).symm)

/-- An array that agrees with the coordinates one by one is the array of them. -/
theorem coords_at {A : Args} {x : FVec Ideal S20000x10 .f32}
    (h : ∀ (r : Fin 20000) (p : Fin 5) (j : Fin 2), x (ix2 r ⟨2 * p + j, by omega⟩) = A.coord r p j)
    (r : Fin 20000) (j : Fin 10) : x (ix2 r j) = coords A (ix2 r j) := by
  refine Eq.trans (congrArg x ?_) (h r ⟨(j : ℕ) / 2, by omega⟩ ⟨(j : ℕ) % 2, by omega⟩)
  exact congrArg (ix2 r) (Fin.ext (Nat.div_add_mod _ _).symm)

/-- An index of an array of two axes is its pair of coordinates. -/
theorem pair_of {a b : ℕ} (i : (⟨2, ![a, b]⟩ : Shape).Idx) : ∃ (x : Fin a) (y : Fin b), i = ix2 x y :=
  ⟨i 0, i 1, funext fun d => by fin_cases d <;> rfl⟩

/-- Where the two memories agree on the arguments, the two programs are given the same problem. -/
theorem args_eq (m : (ℓ : Loc nD τ sig) → Buf (Elt Ideal) ℓ)
    (m' : (ℓ : Loc ReferenceIdeal.nD ReferenceIdeal.τ ReferenceIdeal.sig) → Buf (Elt Ideal) ℓ) (c : Dev nD)
    (h : m' ((c.tc : Thread ReferenceIdeal.nD ReferenceIdeal.τ).loc ReferenceIdeal.main_arg0) = m ((c.tc : Thread nD τ).loc main_arg0)
      ∧ m' ((c.tc : Thread ReferenceIdeal.nD ReferenceIdeal.τ).loc ReferenceIdeal.main_arg1) = m ((c.tc : Thread nD τ).loc main_arg1)
      ∧ m' ((c.tc : Thread ReferenceIdeal.nD ReferenceIdeal.τ).loc ReferenceIdeal.main_arg2) = m ((c.tc : Thread nD τ).loc main_arg2)
      ∧ m' ((c.tc : Thread ReferenceIdeal.nD ReferenceIdeal.τ).loc ReferenceIdeal.main_arg3) = m ((c.tc : Thread nD τ).loc main_arg3)
      ∧ m' ((c.tc : Thread ReferenceIdeal.nD ReferenceIdeal.τ).loc ReferenceIdeal.main_arg4) = m ((c.tc : Thread nD τ).loc main_arg4)
      ∧ m' ((c.tc : Thread ReferenceIdeal.nD ReferenceIdeal.τ).loc ReferenceIdeal.main_arg5) = m ((c.tc : Thread nD τ).loc main_arg5)
      ∧ m' ((c.tc : Thread ReferenceIdeal.nD ReferenceIdeal.τ).loc ReferenceIdeal.main_arg6) = m ((c.tc : Thread nD τ).loc main_arg6)
      ∧ m' ((c.tc : Thread ReferenceIdeal.nD ReferenceIdeal.τ).loc ReferenceIdeal.main_arg7) = m ((c.tc : Thread nD τ).loc main_arg7)
      ∧ m' ((c.tc : Thread ReferenceIdeal.nD ReferenceIdeal.τ).loc ReferenceIdeal.main_arg8) = m ((c.tc : Thread nD τ).loc main_arg8)
      ∧ m' ((c.tc : Thread ReferenceIdeal.nD ReferenceIdeal.τ).loc ReferenceIdeal.main_arg9) = m ((c.tc : Thread nD τ).loc main_arg9)
      ∧ m' ((c.tc : Thread ReferenceIdeal.nD ReferenceIdeal.τ).loc ReferenceIdeal.main_arg10) = m ((c.tc : Thread nD τ).loc main_arg10)
      ∧ m' ((c.tc : Thread ReferenceIdeal.nD ReferenceIdeal.τ).loc ReferenceIdeal.main_arg11) = m ((c.tc : Thread nD τ).loc main_arg11)
      ∧ m' ((c.tc : Thread ReferenceIdeal.nD ReferenceIdeal.τ).loc ReferenceIdeal.main_arg12) = m ((c.tc : Thread nD τ).loc main_arg12)
      ∧ m' ((c.tc : Thread ReferenceIdeal.nD ReferenceIdeal.τ).loc ReferenceIdeal.main_arg13) = m ((c.tc : Thread nD τ).loc main_arg13)
      ∧ m' ((c.tc : Thread ReferenceIdeal.nD ReferenceIdeal.τ).loc ReferenceIdeal.main_arg14) = m ((c.tc : Thread nD τ).loc main_arg14)
      ∧ m' ((c.tc : Thread ReferenceIdeal.nD ReferenceIdeal.τ).loc ReferenceIdeal.main_arg15) = m ((c.tc : Thread nD τ).loc main_arg15)
      ∧ m' ((c.tc : Thread ReferenceIdeal.nD ReferenceIdeal.τ).loc ReferenceIdeal.main_arg16) = m ((c.tc : Thread nD τ).loc main_arg16)
      ∧ m' ((c.tc : Thread ReferenceIdeal.nD ReferenceIdeal.τ).loc ReferenceIdeal.main_arg17) = m ((c.tc : Thread nD τ).loc main_arg17)
      ∧ m' ((c.tc : Thread ReferenceIdeal.nD ReferenceIdeal.τ).loc ReferenceIdeal.main_arg18) = m ((c.tc : Thread nD τ).loc main_arg18)
      ∧ m' ((c.tc : Thread ReferenceIdeal.nD ReferenceIdeal.τ).loc ReferenceIdeal.main_arg19) = m ((c.tc : Thread nD τ).loc main_arg19)
      ∧ m' ((c.tc : Thread ReferenceIdeal.nD ReferenceIdeal.τ).loc ReferenceIdeal.main_arg20) = m ((c.tc : Thread nD τ).loc main_arg20)
      ∧ m' ((c.tc : Thread ReferenceIdeal.nD ReferenceIdeal.τ).loc ReferenceIdeal.main_arg21) = m ((c.tc : Thread nD τ).loc main_arg21)
      ∧ m' ((c.tc : Thread ReferenceIdeal.nD ReferenceIdeal.τ).loc ReferenceIdeal.main_arg22) = m ((c.tc : Thread nD τ).loc main_arg22)
      ∧ m' ((c.tc : Thread ReferenceIdeal.nD ReferenceIdeal.τ).loc ReferenceIdeal.main_arg23) = m ((c.tc : Thread nD τ).loc main_arg23)
      ∧ m' ((c.tc : Thread ReferenceIdeal.nD ReferenceIdeal.τ).loc ReferenceIdeal.main_arg24) = m ((c.tc : Thread nD τ).loc main_arg24)) :
    Ref.args (launchContents m' c) = Host.args m c := by
  obtain ⟨h0, h1, h2, h3, h4, h5, h6, h7, h8, h9, h10, h11, h12, h13, h14, h15, h16, h17, h18, h19, h20, h21, h22, h23, h24⟩ := h
  unfold Ref.args Host.args
  exact (Args.mk.injEq ..).mpr ⟨funext fun x => funext fun y => funext fun z => congrFun h0 (ix3 x y z),
    funext fun x => congrFun h1 (ix1 x),
    funext fun x => congrFun h2 (ix1 x),
    funext fun x => congrFun h3 (ix1 x),
    funext fun x => congrFun h4 (ix1 x),
    funext fun x => funext fun y => funext fun z => congrFun h5 (ix3 x y z),
    funext fun x => congrFun h6 (ix1 x),
    funext fun x => funext fun y => funext fun z => congrFun h7 (ix3 x y z),
    funext fun x => congrFun h8 (ix1 x),
    funext fun x => congrFun h9 (ix1 x),
    funext fun x => congrFun h10 (ix1 x),
    funext fun x => funext fun y => congrFun h11 (ix2 x y),
    funext fun x => funext fun y => congrFun h12 (ix2 x y),
    funext fun x => congrFun h13 (ix2 0 x),
    funext fun x => congrFun h14 (ix1 x),
    funext fun x => funext fun y => congrFun h15 (ix2 x y),
    funext fun x => congrFun h16 (ix1 x),
    funext fun x => congrFun h17 (ix1 x),
    funext fun x => congrFun h18 (ix2 0 x),
    funext fun x => congrFun h19 (ix1 x),
    funext fun x => funext fun y => congrFun h20 (ix2 x y),
    funext fun x => congrFun h21 (ix1 x),
    funext fun x => congrFun h22 (ix1 x),
    funext fun x => congrFun h23 (ix1 x),
    funext fun x => congrFun h24 (ix1 x)⟩

set_option maxHeartbeats 2000000 in
/-- The two programs' results are equal over the extended reals wherever they are compared. -/
theorem algebraic : Cert.algebraic_KernelIdeal_ReferenceIdeal_on_beyond_lane_128_pre_drawn (hKernelIdeal := Cert.KernelIdeal.Gen.facts)
    (hReferenceIdeal := Cert.ReferenceIdeal.Gen.facts) (hPre_drawn := Cert.Pre_drawn.Gen.facts)
    (hOn_beyond_lane_128 := Cert.On_beyond_lane_128.Gen.facts) := by
  intro m g m' g' hpre hagree
  choose k hk using fun c => Drawn.class_of hpre c
  choose t ht using fun c => Drawn.city_of hpre c
  refine ⟨fun c => tokens (Host.args m c) (k c) (t c), fun c _ => 0#1, fun c => coords (Host.args m c), ?_, ?_⟩
  · refine (θ_run _ _ _).mono (fun r h c => ?_) (θ_run_and (Points.results m g) (KernelIdeal.Gen.frame m g))
    obtain ⟨h1, h2, h3⟩ := h.1 c (Drawn.real_of hpre c)
    refine ⟨fun i hi => ?_, fun i _ => congrFun h2 i, fun i _ => ?_, h.2.1 c⟩
    · obtain ⟨x, y, rfl⟩ := pair_of i
      exact tokens_at (fun r p l hl => h1 r _ _ (hk c r) (ht c r) p l hl) x y (Drawn.beyond hi)
    · obtain ⟨x, y, rfl⟩ := pair_of i
      exact coords_at h3 x y
  · refine (θ_run _ _ _).mono (fun r h c => ?_) (Ref.results_run m' g')
    obtain ⟨h1, h2, h3, h4⟩ := h c
    rw [args_eq m m' c (hagree c)] at h1 h3
    refine ⟨fun i hi => ?_, fun i _ => congrFun h2 i, fun i _ => ?_, h4⟩
    · obtain ⟨x, y, rfl⟩ := pair_of i
      exact tokens_at (fun r p l hl => h1 r _ _ (hk c r) (ht c r) p l hl) x y (Drawn.beyond hi)
    · obtain ⟨x, y, rfl⟩ := pair_of i
      exact coords_at h3 x y

/-- The reference runs and leaves its arguments and every counter as they were. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      fun r => (∀ c : Dev ReferenceIdeal.nD, Ref.Kept m c r.2.mem) ∧ r.2.sem = fun _ => 0 :=
  (θ_run _ _ _).mono (fun r h => ⟨fun c => (h c).2.2.2, sem_eq_zero_of_no_sems (by decide) r.2⟩) (Ref.results_run m g)

end Cert.Equal

end
-- ==== Proof.Wave.lean ====
/- What the kernel adds to the lanes behind the sinusoids: its polynomial at half a turn, a constant near zero. -/
module

public import proofs.«01_k».proof.Proof.Geos
public import proofs.«01_k».proof.Proof.HostRows

@[expose] public section

set_option maxRecDepth 16384

noncomputable section

namespace Cert.Pay

open Idealize.ShloMosaic Cert.KernelIdeal Cert.KernelIdeal.Gen Cert.Row Cert.Norm

/-- The kernel's polynomial for the sine of `r` turns. -/
def sine (r : EReal) : EReal :=
  r * (((((Ideal.ofBits .f32 0xC145F555#32 * (r * r) + Ideal.ofBits .f32 0x42251459#32) * (r * r)
    + Ideal.ofBits .f32 0xC2993099#32) * (r * r) + Ideal.ofBits .f32 0x42A33200#32) * (r * r)
    + Ideal.ofBits .f32 0xC2255DAD#32) * (r * r) + Ideal.ofBits .f32 0x40C90FD7#32)

/-- The polynomial of the part of `z` behind the point, less half a turn. -/
def wave (z : EReal) : EReal := sine (z - Ideal.liftRound Int.floor z - Ideal.ofBits .f32 0x3F000000#32)

/-- What the polynomial is at half a turn, where the sine is zero. -/
def residue : ℝ := 581 / 2147483648

/-- The numbers of the polynomial, and one half. -/
theorem wave_bits :
    (Ideal.ofBits .f32 0xC145F555#32 : EReal) = ((-12973397 / 1048576 : ℝ) : EReal)
      ∧ (Ideal.ofBits .f32 0x42251459#32 : EReal) = ((10818649 / 262144 : ℝ) : EReal)
      ∧ (Ideal.ofBits .f32 0xC2993099#32 : EReal) = ((-10039449 / 131072 : ℝ) : EReal)
      ∧ (Ideal.ofBits .f32 0x42A33200#32 : EReal) = ((20889 / 256 : ℝ) : EReal)
      ∧ (Ideal.ofBits .f32 0xC2255DAD#32 : EReal) = ((-10837421 / 262144 : ℝ) : EReal)
      ∧ (Ideal.ofBits .f32 0x40C90FD7#32 : EReal) = ((13176791 / 2097152 : ℝ) : EReal)
      ∧ (Ideal.ofBits .f32 0x3F000000#32 : EReal) = ((1 / 2 : ℝ) : EReal) := by
  refine ⟨?_, ?_, ?_, ?_, ?_, ?_, ?_⟩ <;>
    (simp [Ideal.ofBits, Ideal.ieee, -EReal.coe_mul]; norm_num)

/-- Where the phase is zero, the kernel adds the residue. -/
theorem wave_zero : wave 0 = ((residue : ℝ) : EReal) := by
  obtain ⟨h0, h1, h2, h3, h4, h5, h6⟩ := wave_bits
  have hf : Ideal.liftRound Int.floor (0 : EReal) = ((0 : ℝ) : EReal) := by
    have : Ideal.liftRound Int.floor ((0 : ℝ) : EReal) = (((⌊(0 : ℝ)⌋ : ℤ) : ℝ) : EReal) := rfl
    simpa using this
  unfold wave sine residue
  rw [hf, h0, h1, h2, h3, h4, h5, h6]
  have hr : (0 : EReal) - ((0 : ℝ) : EReal) - ((1 / 2 : ℝ) : EReal) = ((-1 / 2 : ℝ) : EReal) := by
    rw [← EReal.coe_zero, ← EReal.coe_sub, ← EReal.coe_sub]
    norm_num
  rw [hr]
  simp only [← EReal.coe_mul, ← EReal.coe_add]
  norm_num

/-- The phases: a product of a row with the table of frequencies. -/
theorem wave_apply (v10 : FVec Ideal S1000x14 .f32) (v110 : FVec Ideal S1x14 .f32) (v120 : FVec Ideal S1000x14 .f32)
    (v128 : FVec Ideal S14x640 .f32) (r : Fin 1000) (l : Fin 640) (h : ∀ q, v128 (ix2 q l) = (0 : EReal)) :
    k0_pay20 (F := Ideal) v10 v110 v120 v128 (ix2 r l) = ((residue : ℝ) : EReal) := by
  rw [← wave_zero]
  pointwise [k0_pay20]
  simp only [h, mul_zero, Finset.sum_const_zero]
  rfl

variable (v : FVec Ideal S1000x896 .f32) (w : FVec Ideal S384x256 .f32) (b g bb : FVec Ideal S1x256 .f32)
  (u : FVec Ideal S1000x640 .f32) (r : Fin 1000)

/-- The first lanes of the first point. -/
theorem near0_apply (e : Fin 128) :
    k0_pay24 (F := Ideal) u (k0_pay21 v w b) (k0_pay22 v w b) g bb (ix2 r e)
      = geoRow v w b g bb r 0 ⟨e, by omega⟩ + u (ix2 r ⟨e, by omega⟩) := by
  pointwise [k0_pay24, k0_pay21, k0_pay22, k0_pay23]
  rfl

/-- The first lanes of the second point. -/
theorem near1_apply (e : Fin 128) :
    k0_pay29 (F := Ideal) u (k0_pay26 v w) (k0_pay27 b) g bb (ix2 r e)
      = geoRow v w b g bb r 1 ⟨e, by omega⟩ + u (ix2 r ⟨128 + e, by omega⟩) := by
  pointwise [k0_pay29, k0_pay26, k0_pay27, k0_pay28]
  rfl

/-- The first lanes of the third point. -/
theorem near2_apply (e : Fin 128) :
    k0_pay33 (F := Ideal) u (k0_pay31 v) w b g bb (ix2 r e)
      = geoRow v w b g bb r 2 ⟨e, by omega⟩ + u (ix2 r ⟨256 + e, by omega⟩) := by
  pointwise [k0_pay33, k0_pay31, k0_pay32]
  rfl

/-- The first lanes of the fourth point. -/
theorem near3_apply (e : Fin 128) :
    k0_pay36 (F := Ideal) v u w b g bb (ix2 r e)
      = geoRow v w b g bb r 3 ⟨e, by omega⟩ + u (ix2 r ⟨384 + e, by omega⟩) := by
  pointwise [k0_pay36, k0_pay35]
  rfl

/-- The first lanes of the fifth point. -/
theorem near4_apply (e : Fin 128) :
    k0_pay2 (F := Ideal) u (k0_pay38 v w b g) (k0_pay39 bb) (ix2 r e)
      = geoRow v w b g bb r 4 ⟨e, by omega⟩ + u (ix2 r ⟨512 + e, by omega⟩) := by
  pointwise [k0_pay2, k0_pay38, k0_pay39, k0_pay1]
  rfl

end Cert.Pay

namespace Cert.Host

open Idealize.ShloMosaic Idealize.ShloMosaic.TcCoe Cert.KernelIdeal Cert.KernelIdeal.Gen Idealize.SL.Sem Idealize.ShloMosaic.StableHlo

variable (m : (ℓ : Loc nD τ sig) → Buf (Elt Ideal) ℓ) (c : Dev nD)

/-- Behind the 32 sinusoids of a point the table of frequencies is zero. -/
theorem flats : ∀ (q : Fin 14) (p : Fin 5) (e : Fin 96), lit4t (128 * (5 * q + p) + (32 + e)) = 0#32 := by
  decide +kernel

/-- The table of frequencies, behind the sinusoids of a point. -/
theorem freqs_apply (q : Fin 14) (p : Fin 5) (e : Fin 128) (he : 32 ≤ (e : ℕ)) :
    (V m c main_cst_3 : FVec Ideal S14x640 .f32) (ix2 q ⟨128 * p + e, by omega⟩) = (0 : EReal) := by
  unfold V
  after_reads_at
  have h := flats q p ⟨e - 32, by omega⟩
  have e1 : ((S14x640.rowMajor (ix2 q ⟨128 * p + e, by omega⟩) : Fin 8960) : ℕ) = 128 * (5 * q + p) + (32 + (e - 32)) := by
    refine (Shape.rowMajor_val_two (d := ![14, 640]) _).trans ?_
    show (q : ℕ) * 640 + (128 * p + e) = _
    omega
  rw [← e1] at h
  exact (congrArg (Ideal.ofBits .f32) h).trans zero_bits

end Cert.Host

end
-- ==== Proof.Lanes.lean ====
/- The kernel's lanes behind the sinusoids: the normalized features, with the polynomial's residue added. -/
module

public import proofs.«01_k».proof.Proof.Arrays
public import proofs.«01_k».proof.Proof.Wave

@[expose] public section

set_option maxRecDepth 16384

noncomputable section

namespace Cert.Points

open Idealize.ShloMosaic Idealize.ShloMosaic.TcCoe Cert.KernelIdeal Cert.KernelIdeal.Gen Cert.Row Cert.Norm Cert.Pay Cert.Spec Cert.Host

variable (m : (ℓ : Loc nD τ sig) → Buf (Elt Ideal) ℓ) (c : Dev nD) (t : Fin cfg0.N)

theorem index9 : ∀ t : Fin cfg0.N, win0_9.index t 0 = 0 ∧ win0_9.index t 1 = 0 :=
  (by decide +kernel : ∀ t : Fin grid0.N, _)

/-- The block of frequencies is the whole table. -/
theorem block9 : (iblk m c 9 t : FVec Ideal S14x640 .f32) = V m c main_cst_3 := by
  obtain ⟨h1, h2⟩ := index9 t
  funext j
  blk_ext [iblk, h1, h2]

/-- What the polynomial adds to the first 128 lanes of the five points of a block. -/
def waves : FVec Ideal S1000x640 .f32 :=
  k0_pay20 (F := Ideal) (k0_pay5 (iblk m c 0 t) (iblk m c 1 t) (iblk m c 2 t)) (iblk m c 3 t) (k0_pay19 (F := Ideal)) (iblk m c 9 t)

/-- Lane `e` of the token of point `p` in row `r` of a block, before lane 128. -/
def front (r : Fin 1000) (p : Fin 5) (e : Fin 128) : EReal :=
  geoRow (feats m c t) (iblk m c 5 t) (iblk m c 6 t) (iblk m c 7 t) (iblk m c 8 t) r p ⟨e, by omega⟩
    + waves m c t (ix2 r ⟨128 * p + e, by omega⟩)

/-- A lane that a literal point and a literal offset name. -/
theorem front_eq {r : Fin 1000} {p q : Fin 5} {l e : Fin 128} {n : ℕ} (hn : n < 640) (hp : (p : ℕ) = q) (hl : (l : ℕ) = e)
    (hq : n = 128 * (q : ℕ) + e) :
    front m c t r p l
      = geoRow (feats m c t) (iblk m c 5 t) (iblk m c 6 t) (iblk m c 7 t) (iblk m c 8 t) r q ⟨e, by omega⟩
        + waves m c t (ix2 r ⟨n, hn⟩) := by
  subst hq
  obtain rfl : p = q := Fin.ext hp
  obtain rfl : l = e := Fin.ext hl
  rfl

set_option maxHeartbeats 1000000 in
/-- The first 128 lanes of each token in the block that a grid point writes. -/
theorem front_block (y0 : Fin 1000) (y1 : Fin 2560) (hl : (y1 : ℕ) % 512 < 128) :
    ((outsAt0 m c t).1 : FVec Ideal S1000x2560 .f32) (ix2 y0 y1) = front m c t y0 ⟨(y1 : ℕ) / 512, by omega⟩ ⟨(y1 : ℕ) % 512, hl⟩ := by
  dsimp only [outsAt0]
  frame_out
  canon_tiles x h using View.cover_of_tiledBy _ ![1000, 128] (by sl_kernel_rfl) _
  all_goals
    idx_vars x
    replace h0 : (y0 : ℕ) = x0 := h0
    obtain rfl : y0 = x0 := Fin.ext h0
    try (exfalso; omega)
  all_goals
    first
      | rw [near0_apply]
      | rw [near1_apply]
      | rw [near2_apply]
      | rw [near3_apply]
      | rw [near4_apply]
  all_goals
    exact (front_eq m c t (e := x1) _ (by simp; omega) (by simp; omega) (by simp)).symm

/-- Behind the sinusoids the polynomial adds its residue. -/
theorem front_geo (h : RealArgs (args m c)) (r : Fin 1000) (p : Fin 5) (l : Fin 96) :
    front m c t r p ⟨32 + l, by omega⟩ = (args m c).geo (way t r) p ⟨l, by omega⟩ + ((residue : ℝ) : EReal) := by
  unfold front
  refine congrArg₂ (· + ·) (geo_tok m c t h r p ⟨l, by omega⟩) (wave_apply _ _ _ _ _ _ fun q => ?_)
  rw [block9 m c t]
  exact freqs_apply m c q p ⟨32 + l, by omega⟩ (by simp)

/-- A lane behind the sinusoids, in the array. -/
theorem front_result (h : RealArgs (args m c)) (r : Fin 20000) (p : Fin 5) (l : Fin 96) :
    ((dats m 0 c).arrAt 24 cfg0.N : FVec Ideal S20000x2560 .f32) (ix2 r ⟨512 * p + (32 + l), by omega⟩)
      = (args m c).geo r p ⟨l, by omega⟩ + ((residue : ℝ) : EReal) := by
  have e1 : (512 * (p : ℕ) + (32 + l)) / 512 = p := by omega
  have e2 : (512 * (p : ℕ) + (32 + l)) % 512 = 32 + l := by omega
  rw [tokens_array, front_block m c _ _ _ (by simp only [e2]; omega)]
  have := front_geo m c (pointOf r) h (rowOf r) p l
  rw [way_of] at this
  rw [← this]
  exact congrArg₂ (front m c _ _) (Fin.ext e1) (Fin.ext e2)

open Cert.KernelIdeal.Value in
/-- What the kernel leaves in the lanes behind the sinusoids when the numbers it convolves are real. -/
theorem front_run (m : (ℓ : Loc nD τ sig) → Buf (Elt Ideal) ℓ) (ρ : Dev nD → PrngReg) :
    θ_run defs (onTc (τ := τ) (main (F := Ideal))) ⟨m, fun _ => 0, ρ⟩ fun s => ∀ c : Dev nD, RealArgs (args m c) →
      ∀ (r : Fin 20000) (p : Fin 5) (l : Fin 96),
        (s.2.mem ((c.tc : Thread nD τ).loc main_v57_0) : FVec Ideal S20000x2560 .f32) (ix2 r ⟨512 * p + (32 + l), by omega⟩)
          = (args m c).geo r p ⟨l, by omega⟩ + ((residue : ℝ) : EReal) := by
  refine (θ_run defs _ _).mono (fun s h c hr r p l => ?_) (run_main m ρ)
  rw [post24 m s h c]
  exact front_result m c hr r p l

end Cert.Points

end
-- ==== Proof.NearFacts.lean ====
/- The shapes that the bound's two predicates state fit together. -/
module

public import proofs.«01_k».proof.Post_near_layer_norm
public import proofs.«01_k».proof.Pre_finite_points
public import Idealize.ShloMosaic.Lib.Decide

@[expose] public section

namespace Cert.NearPost

open Idealize.ShloMosaic

/-- The postcondition's, every one of them by computation. -/
instance facts : Cert.Post_near_layer_norm.Facts where
  bcast_S2_S1x1x2_2 := by decide
  bcast_S1x1x2_S20000x5x2_0_1_2 := by decide
  pads_S20000x5x2_S20000x7x2_000_110_000 := by decide
  h_S_ := by decide
  slices_S20000x7x2_S20000x5x2_0_0_0 := by decide
  slices_S112x2x3_S112x2x1_0_0_0 := by decide
  shapeCasts_S112x2x1_S112x2 := by decide
  bcast_S_S20000x5x112 := by decide
  slices_S20000x7x2_S20000x5x2_0_1_0 := by decide
  slices_S112x2x3_S112x2x1_0_0_1 := by decide
  slices_S20000x7x2_S20000x5x2_0_2_0 := by decide
  slices_S112x2x3_S112x2x1_0_0_2 := by decide
  bcast_S112_S1x1x112_2 := by decide
  bcast_S1x1x112_S20000x5x112_0_1_2 := by decide
  pads_S20000x5x112_S20000x7x112_000_110_000 := by decide
  slices_S20000x7x112_S20000x5x112_0_0_0 := by decide
  slices_S224x112x3_S224x112x1_0_0_0 := by decide
  shapeCasts_S224x112x1_S224x112 := by decide
  bcast_S_S20000x5x224 := by decide
  slices_S20000x7x112_S20000x5x112_0_1_0 := by decide
  slices_S224x112x3_S224x112x1_0_0_1 := by decide
  slices_S20000x7x112_S20000x5x112_0_2_0 := by decide
  slices_S224x112x3_S224x112x1_0_0_2 := by decide
  bcast_S224_S1x1x224_2 := by decide
  bcast_S1x1x224_S20000x5x224_0_1_2 := by decide
  reducesTo_S20000x5x224_S20000x5_d2 := by decide
  bcast_S20000x5_S20000x5x1_0_1 := by decide
  bcast_S_S20000x5x1 := by decide
  bcast_S20000x5x1_S20000x5x224_0_1_2 := by decide
  slices_S20000x5x224_S20000x5x96_0_0_0 := by decide
  shapeCasts_S20000x2560_S20000x5x512 := by decide
  slices_S20000x5x512_S20000x5x96_0_0_32 := by decide
  bcast_S_S20000x5x96 := by decide
  dot_S20000x5x2_S112x2_S20000x5x112_2_1_01_0_n_n_wf := by decide
  dot_S20000x5x112_S224x112_S20000x5x224_2_1_01_0_n_n_wf := by decide

/-- The precondition's, every one of them by computation. -/
instance facts_pre : Cert.Pre_finite_points.Facts where
  bcast_S_S20000x5x2 := by decide
  bcast_S_S112x2x3 := by decide
  bcast_S_S112 := by decide
  bcast_S_S224x112x3 := by decide
  bcast_S_S224 := by decide

end Cert.NearPost
-- ==== Proof.NearPost.lean ====
/- What the postcondition on the first lanes says: each is a normalized feature up to one part in a million. -/
module

public import Idealize.ShloMosaic.Lib.Pointwise
public import Idealize.ShloMosaic.Lib.Tactic.CleanTypes
public import proofs.«01_k».proof.Post_near_layer_norm
public import proofs.«01_k».proof.Proof.Spec
public import proofs.«01_k».proof.Proof.NearFacts

@[expose] public section

set_option maxRecDepth 16384

noncomputable section

namespace Cert.NearPost

open Idealize.ShloMosaic Cert.Post_near_layer_norm Cert.Spec Cert.Norm Cert.Row

/-- The tolerance. -/
abbrev tol : EReal := Ideal.ofBits .f32 0x358637BD#32

/-- The number of normalized features. -/
abbrev n224 : EReal := Ideal.ofBits .f32 0x43600000#32

theorem n224_eq : n224 = ((224 : ℝ) : EReal) := by
  simp [n224, Ideal.ofBits, Ideal.ieee, -EReal.coe_mul]; norm_num

/-- Whether `x` is `y` up to the tolerance. -/
def near (x y : EReal) : BitVec 1 :=
  IntOp.andi (BitVec.ofBool (decide (y - tol ≤ x))) (BitVec.ofBool (decide (x ≤ y + tol)))

theorem zero_float : (FloatOps.sitofp .f32 (0#32) : Ideal .f32) = (0 : EReal) := by
  simp [FloatOps.sitofp]

variable (a5 : FVec Ideal S112x2x3 .f32) (a6 : FVec Ideal S112 .f32) (a7 : FVec Ideal S224x112x3 .f32) (a8 a9 a10 : FVec Ideal S224 .f32)
  (a25 : FVec Ideal S20000x2560 .f32) (r : Fin 20000) (p : Fin 5) (e : Fin 96)

/-- The comparison, from the features, their means and the sums of their squared deviations. -/
theorem part3_apply (v49 : FVec Ideal S20000x5x224 .f32) (v53 v60 : FVec Ideal S20000x5x1 .f32) :
    fn_part3 (F := Ideal) a9 a10 a25 v49 v53 v60 (ix3 r p e)
      = near (a25 (ix2 r ⟨512 * p + (32 + e), by omega⟩))
          (Ideal.div (v49 (ix3 r p ⟨e, by omega⟩) - v53 (ix3 r p 0)) (Ideal.sqrt (Ideal.div (v60 (ix3 r p 0)) n224 + eps))
            * a9 (ix1 ⟨e, by omega⟩) + a10 (ix1 ⟨e, by omega⟩)) := by
  unfold fn_part3 fn_part4
  dsimp only
  pointwise
  rw [show (ix2 r ⟨512 * p + (32 + e), by omega⟩ : S20000x2560.Idx) = ix2 r ⟨p * 512 + (32 + e), by omega⟩ from
    congrArg (ix2 r) (Fin.ext (by simp; omega))]
  rfl

/-- The comparison, from the second convolution. -/
theorem part2_apply (v39 : FVec Ideal S20000x5x224 .f32) (v40 : FVec Ideal S20000x5x112 .f32) :
    fn_part2 (F := Ideal) a7 a8 a9 a10 a25 v39 v40 (ix3 r p e)
      = near (a25 (ix2 r ⟨512 * p + (32 + e), by omega⟩))
          (two n224 eps (fun j => max (v39 (ix3 r p j) + ∑ i, v40 (ix3 r p i) * a7 (ix3 j i 2) + a8 (ix1 j)) 0)
            (fun j => a9 (ix1 j)) (fun j => a10 (ix1 j)) ⟨e, by omega⟩) := by
  unfold fn_part2
  dsimp only
  rw [part3_apply]
  pointwise
  rfl

/-- The points of the first convolution, one zero point on either side. -/
theorem pad0_apply {x : FVec Ideal S20000x5x112 .f32} {X : Fin 5 → Fin 112 → EReal} (h : ∀ p j, x (ix3 r p j) = X p j)
    (q : Fin 7) (j : Fin 112) : fn_pad_0 (F := Ideal) x (constantI S_ 32 0#32) (ix3 r q j) = padded X q j := by
  unfold fn_pad_0
  dsimp only
  pointwise
  simp only [h, zero_float]
  rfl

/-- The coordinates, one zero point on either side. -/
theorem pad_apply {x : FVec Ideal S20000x5x2 .f32} {X : Fin 5 → Fin 2 → EReal} (h : ∀ p j, x (ix3 r p j) = X p j)
    (q : Fin 7) (j : Fin 2) : fn_pad (F := Ideal) x (constantI S_ 32 0#32) (ix3 r q j) = padded X q j := by
  unfold fn_pad
  dsimp only
  pointwise
  simp only [h, zero_float]
  rfl

/-- The comparison, from the first convolution. -/
theorem part1_apply (v17 : FVec Ideal S20000x5x112 .f32) (v18 : FVec Ideal S20000x5x2 .f32) (v19 : FVec Ideal S112x2x1 .f32)
    {Y : Fin 5 → Fin 112 → EReal}
    (h : ∀ p o, max (v17 (ix3 r p o) + ∑ i, v18 (ix3 r p i) * v19 (ix3 o i 0) + a6 (ix1 o)) 0 = Y p o) :
    fn_part1 (F := Ideal) a6 a7 a8 a9 a10 a25 v17 v18 v19 (ix3 r p e)
      = near (a25 (ix2 r ⟨512 * p + (32 + e), by omega⟩))
          (two n224 eps (conv Y (fun o i d => a7 (ix3 o i d)) (fun o => a8 (ix1 o)) p)
            (fun j => a9 (ix1 j)) (fun j => a10 (ix1 j)) ⟨e, by omega⟩) := by
  unfold fn_part1
  dsimp only
  rw [part2_apply]
  refine congrArg (fun X => near _ (two n224 eps X _ _ _)) (funext fun j => ?_)
  generalize hx : maximumf (F := Ideal) (s := S20000x5x112) (φ := .f32) _ _ = x
  have hx' : ∀ p o, x (ix3 r p o) = Y p o := by
    intro p o
    rw [← hx, ← h]
    pointwise
  pointwise
  simp only [pad0_apply r hx']
  rfl

/-- The constants added to the coordinates. -/
theorem half_eq (j : Fin 2) : (Ideal.ofBits .f32 (lit0 (S2.rowMajor (ix1 j))) : EReal) = half j := by
  fin_cases j
  · show Ideal.ofBits .f32 (lit0 0) = _
    simp [half, lit0, Ideal.ofBits, Ideal.ieee, -EReal.coe_mul]; norm_num
  · show Ideal.ofBits .f32 (lit0 1) = _
    simp [half, lit0, Ideal.ofBits, Ideal.ieee, -EReal.coe_mul]; norm_num

/-- The constants that divide the coordinates. -/
theorem span_eq (j : Fin 2) : (Ideal.ofBits .f32 (lit1 (S2.rowMajor (ix1 j))) : EReal) = span j := by
  fin_cases j
  · show Ideal.ofBits .f32 (lit1 0) = _
    simp [span, lit1, Ideal.ofBits, Ideal.ieee, -EReal.coe_mul]; norm_num
  · show Ideal.ofBits .f32 (lit1 1) = _
    simp [span, lit1, Ideal.ofBits, Ideal.ieee, -EReal.coe_mul]; norm_num

/-- The postcondition at one lane. -/
theorem fn_apply (A : Args) (x0 : FVec Ideal S20000x5x2 .f32) (h0 : ∀ p j, x0 (ix3 r p j) = A.geoms r p j)
    (h5 : ∀ o i d, a5 (ix3 o i d) = A.w1 o i d) (h6 : ∀ o, a6 (ix1 o) = A.b1 o)
    (h7 : ∀ o i d, a7 (ix3 o i d) = A.w2 o i d) (h8 : ∀ o, a8 (ix1 o) = A.b2 o)
    (h9 : ∀ o, a9 (ix1 o) = A.g o) (h10 : ∀ o, a10 (ix1 o) = A.b o)
    (x1 x2 x3 x4 x11 x12 x13 x14 x15 x16 x17 x18 x19 x20 x21 x22 x23 x24 x26 x27) :
    fn (F := Ideal) x0 x1 x2 x3 x4 a5 a6 a7 a8 a9 a10 x11 x12 x13 x14 x15 x16 x17 x18 x19 x20 x21 x22 x23 x24 a25 x26 x27 (ix3 r p e)
      = near (a25 (ix2 r ⟨512 * p + (32 + e), by omega⟩)) (A.geo r p ⟨e, by omega⟩) := by
  unfold fn
  dsimp only
  generalize hx : Host.divf (F := Ideal) (s := S20000x5x2) (φ := .f32) _ _ = x
  have hx' : ∀ p j, x (ix3 r p j) = A.coord r p j := by
    intro p j
    rw [← hx]
    pointwise
    rw [half_eq, span_eq, h0]
    rfl
  rw [part1_apply a6 a7 a8 a9 a10 a25 r p e (Y := conv (A.coord r) A.w1 A.b1) _ _ _ ?_]
  · simp only [h7, h8, h9, h10]
    rw [n224_eq]
    rfl
  · intro p o
    pointwise
    simp only [pad_apply r hx', h5, h6]
    rfl

end Cert.NearPost

end
-- ==== Proof.Near.lean ====
/- The kernel's lanes behind the sinusoids are the normalized features up to one part in a million. -/
module

public import proofs.«01_k».proof.Defs
public import proofs.«01_k».proof.Proof.Lanes
public import proofs.«01_k».proof.Proof.NearPost
public import proofs.«01_k».proof.Proof.Drawn
public import Idealize.ShloMosaic.Lib.Claim

@[expose] public section

set_option maxRecDepth 16384

noncomputable section

namespace Cert.Near

open Idealize.ShloMosaic Idealize.ShloMosaic.TcCoe Cert.KernelIdeal Cert.Spec Cert.NearPost

/-- The tolerance as a number. -/
theorem tol_eq : tol = ((8796093 / 8796093022208 : ℝ) : EReal) := by
  simp [tol, Ideal.ofBits, Ideal.ieee, -EReal.coe_mul]; norm_num

/-- Adding the residue stays within the tolerance, at infinities too. -/
theorem near_residue (y : EReal) : near (y + ((Pay.residue : ℝ) : EReal)) y = 1#1 := by
  have h0 : (0 : EReal) ≤ ((Pay.residue : ℝ) : EReal) := by
    rw [← EReal.coe_zero, EReal.coe_le_coe_iff]
    unfold Pay.residue
    norm_num
  have h1 : ((Pay.residue : ℝ) : EReal) ≤ tol := by
    rw [tol_eq, EReal.coe_le_coe_iff]
    unfold Pay.residue
    norm_num
  have h2 : y - tol ≤ y + ((Pay.residue : ℝ) : EReal) := by
    rw [sub_eq_add_neg]
    refine add_le_add le_rfl (le_trans ?_ h0)
    rw [tol_eq, ← EReal.coe_neg, ← EReal.coe_zero, EReal.coe_le_coe_iff]
    norm_num
  have h3 : y + ((Pay.residue : ℝ) : EReal) ≤ y + tol := add_le_add le_rfl h1
  unfold near
  rw [decide_eq_true h2, decide_eq_true h3]
  rfl

/-- An index of an array of three axes is its triple of coordinates. -/
theorem triple_of {a b c : ℕ} (i : (⟨3, ![a, b, c]⟩ : Shape).Idx) : ∃ (x : Fin a) (y : Fin b) (z : Fin c), i = ix3 x y z :=
  ⟨i 0, i 1, i 2, funext fun d => by fin_cases d <;> rfl⟩

variable {m : (ℓ : Loc nD τ sig) → Buf (Elt Ideal) ℓ}

/-- The points and the two convolutions are real. -/
theorem real_of (h : Pre_KernelIdeal_finite_points m) (c : Dev nD) : Points.RealArgs (Host.args m c) := by
  obtain ⟨h1, h2, h3, h4, h5⟩ := h c
  unfold Cert.Pre_finite_points.fn at h1 h2 h3 h4 h5
  dsimp only at h1 h2 h3 h4 h5
  refine ⟨fun r p j => ?_, fun o i d => ?_, fun o => ?_, fun o i d => ?_, fun o => ?_⟩
  · have := congrFun h1 (ix3 r p j)
    pointwise at this
    exact Drawn.real_of_bit this
  · have := congrFun h2 (ix3 o i d)
    pointwise at this
    exact Drawn.real_of_bit this
  · have := congrFun h3 (ix1 o)
    pointwise at this
    exact Drawn.real_of_bit this
  · have := congrFun h4 (ix3 o i d)
    pointwise at this
    exact Drawn.real_of_bit this
  · have := congrFun h5 (ix1 o)
    pointwise at this
    exact Drawn.real_of_bit this

set_option maxHeartbeats 2000000 in
/-- Every run of the ideal kernel leaves the lanes behind the sinusoids within the tolerance of the normalized features. -/
theorem holds : Cert.holds_KernelIdeal_near_layer_norm_pre_finite_points (hKernelIdeal := Cert.KernelIdeal.Gen.facts)
    (hPre_finite_points := facts_pre) (hPost_near_layer_norm := facts) := by
  intro m g hpre
  refine (θ_run _ _ _).mono (fun s h c => ?_) (θ_run_and (Points.front_run m g) (KernelIdeal.Gen.frame m g))
  obtain ⟨h0, h1, h2, h3, h4, h5, h6, h7, h8, h9, h10, h11, h12, h13, h14, h15, h16, h17, h18, h19, h20, h21, h22, h23, h24⟩ := h.2.1 c
  refine ⟨h0, h1, h2, h3, h4, h5, h6, h7, h8, h9, h10, h11, h12, h13, h14, h15, h16, h17, h18, h19, h20, h21, h22, h23, h24, ?_⟩
  funext i
  obtain ⟨r, p, e, rfl⟩ := triple_of i
  refine (fn_apply _ _ _ _ _ _ _ r p e (Host.args m c) _ (fun _ _ => rfl) (fun _ _ _ => rfl) (fun _ => rfl) (fun _ _ _ => rfl)
    (fun _ => rfl) (fun _ => rfl) (fun _ => rfl) _ _ _ _ _ _ _ _ _ _ _ _ _ _ _ _ _ _ _ _).trans ?_
  rw [h.1 c (real_of hpre c) r p e]
  exact near_residue _

end Cert.Near

end
-- ==== Proof.lean ====
module

public import proofs.«01_k».proof.Defs
public import proofs.«01_k».proof.Proof.Frames.Kernel
public import proofs.«01_k».proof.Proof.Equal
public import proofs.«01_k».proof.Proof.Near

@[expose] public section

noncomputable section

namespace Cert.Proof

open Idealize.ShloMosaic

/-- Everything that the certificate claims. -/
theorem claim : Cert.Claim :=
  ⟨Cert.Kernel.Gen.facts, Cert.KernelIdeal.Gen.facts, Cert.ReferenceIdeal.Gen.facts, Cert.Pre_drawn.Gen.facts,
    Cert.NearPost.facts_pre, Cert.NearPost.facts, Cert.On_beyond_lane_128.Gen.facts,
    fun m g _ => Cert.Kernel.Gen.frame m g,
    fun m g _ => Cert.KernelIdeal.Gen.frame m g,
    fun m g _ => Cert.KernelIdeal.Gen.frame m g,
    fun m g _ => Cert.KernelIdeal.Gen.frame m g,
    fun m g _ => Cert.Equal.frame_reference m g,
    fun m g _ => Cert.Equal.frame_reference m g,
    IdealRules.named_const.statement Cert.KernelIdeal.κ "inv224" .f32 0x3B924925#32 (((1 / 224 : ℝ) : EReal)) rfl,
    Cert.Equal.algebraic,
    Cert.Near.holds⟩

end Cert.Proof

end
